-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S2000x1500 : Shape := ⟨2, ![2000, 1500]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) (main_arg2 : IVec S16384 32) (main_arg3 : FVec F S2000x1500 .f32) (main_arg4 : FVec F S2000x1500 .f32) (main_arg5 : FVec F S2000x1500 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 2000#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg2 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1500#32
  let main_v11 : IVec S16384 32 := broadcastInDim S16384 ![] bcast_S_S16384 main_c_5
  let main_v12 : IVec S16384 1 := cmpi .slt main_arg2 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S2000x1500 : Shape := ⟨2, ![2000, 1500]⟩
abbrev S3000000 : Shape := ⟨1, ![3000000]⟩
abbrev S512 : Shape := ⟨1, ![512]⟩
abbrev S_ : Shape := ⟨0, ![]⟩
abbrev S16 : Shape := ⟨1, ![16]⟩
abbrev S128 : Shape := ⟨1, ![128]⟩

abbrev nBuf : Table → Nat
  | .hbm => 10
  | .local .scVector .vmem => 6
  | _ => 0

abbrev bufTy : (tb : Table) → Fin (nBuf tb) → BufTy
  | .hbm, ⟨0, _⟩ => ⟨S16384, .f32⟩
  | .hbm, ⟨1, _⟩ => ⟨S16384, .i32⟩
  | .hbm, ⟨2, _⟩ => ⟨S16384, .i32⟩
  | .hbm, ⟨3, _⟩ => ⟨S2000x1500, .f32⟩
  | .hbm, ⟨4, _⟩ => ⟨S2000x1500, .f32⟩
  | .hbm, ⟨5, _⟩ => ⟨S2000x1500, .f32⟩
  | .hbm, ⟨6, _⟩ => ⟨S3000000, .f32⟩
  | .hbm, ⟨7, _⟩ => ⟨S3000000, .f32⟩
  | .hbm, ⟨8, _⟩ => ⟨S3000000, .f32⟩
  | .hbm, ⟨9, _⟩ => ⟨S16384, .f32⟩
  | .local .scVector .vmem, ⟨0, _⟩ => ⟨S512, .f32⟩
  | .local .scVector .vmem, ⟨1, _⟩ => ⟨S512, .i32⟩
  | .local .scVector .vmem, ⟨2, _⟩ => ⟨S512, .i32⟩
  | .local .scVector .vmem, ⟨3, _⟩ => ⟨S512, .f32⟩
  | .local .scVector .vmem, ⟨4, _⟩ => ⟨S512, .f32⟩
  | .local .scVector .vmem, ⟨5, _⟩ => ⟨S512, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S2000x1500 : Shape := ⟨2, ![2000, 1500]⟩
abbrev S_ : Shape := ⟨0, ![]⟩
abbrev S16384x1 : Shape := ⟨2, ![16384, 1]⟩
abbrev S16384x2 : Shape := ⟨2, ![16384, 2]⟩

abbrev nBuf : Space → Nat
  | .hbm => 75
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .i32⟩
  | .hbm, ⟨3, _⟩ => ⟨S2000x1500, .f32⟩
  | .hbm, ⟨4, _⟩ => ⟨S2000x1500, .f32⟩
  | .hbm, ⟨5, _⟩ => ⟨S2000x1500, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S16384, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x1, .i32⟩
  | .hbm, ⟨40, _⟩ => ⟨S16384x2, .i32⟩
  | .hbm, ⟨41, _⟩ => ⟨S16384, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384x1, .i32⟩
  | .hbm, ⟨57, _⟩ => ⟨S16384x1, .i32⟩
  | .hbm, ⟨58, _⟩ => ⟨S16384x2, .i32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.GatherBatch.lean ====
/-
  Several indirect gathers outstanding on ONE semaphore.

  A vector subcore may start a second indirect gather on a semaphore before it has waited for the first. Its
  rows and the first one's credit the same cell in any order, so a wait of one gather's units tells nothing of
  any single destination; only the wait that brings the units consumed to the units issued does. That is a
  counted batch of ROW transfers: every row credits the same number of units, gather number `g` owns the rows
  `g · o … g · o + o - 1` of the batch, a wait that isn't the last consumes `o` rows' units and hands back
  nothing, and the last hands back every row of every gather.

  This module has the one rule that was missing for it, the ISSUE of a gather into a batch (`wp_gatherBatch`),
  and the passage from a gather's rows to the gather as a whole (`gatherRows_join`).
-/
module

public import Idealize.ShloMosaic.Lib.Batch
public import Idealize.ShloMosaic.Lib.SparseCore.Stream

@[expose] public section

noncomputable section

namespace Cert.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

section Row

variable (c : Thread nD τ) {sp : Space} {s₀ s si : Shape} {e : EltTy} {a : Nat}

/-- The index of the offset list at which entry `k` stands. -/
abbrev entryAt {o : ℕ} (hn : si.numel = o) (k : Fin o) : si.Idx := si.rowMajor.symm (k.cast hn.symm)

/-- What row `k` of a gather delivers: row `k` of the destination, holding row `r k` of the source; the share of
    the list's entry `k`; and the row's piece of the share of the source. -/
abbrev rowOut (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) (k : Fin (s.size hg.axis')) : sProp 𝕄 :=
  iprop((dst.view.loc c ↦[(dst.view.slice (s.rowRect hg.axis' k)).set]{fullShare}
            ((dst.view.slice (s.rowRect hg.axis' k)).write (Elt F) fd (fun i => src.view.read (Elt F) fs (hg.rowIdx (r k) i)) Finset.univ))
    ∗ (offs.view.loc c ↦[{offs.view.emb (entryAt hn k)}]{qo} fo)
    ∗ (src.view.loc c ↦[src.view.set]{pieceOf q _ ho k} fs))

/-- The list's entries, numbered, are its indices. -/
theorem entryAt_bijective {o : ℕ} (hn : si.numel = o) : Function.Bijective (entryAt (si := si) hn) :=
  si.rowMajor.symm.bijective.comp (finCongr hn.symm).bijective

/-- All rows of a gather are the gather: the destination written with the rows the list names, and the shares of
    the source and of the list whole again. -/
theorem gatherRows_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (r : Fin (s.size hg.axis') → Fin (s₀.size hg.axis)) :
    (bigSep Finset.univ (rowOut c src dst hg offs hn ho q qo fs fd fo r) : sProp 𝕄)
      ⊢ iprop((dst.view.loc c ↦[dst.view.set]{fullShare}
                  (dst.view.write (Elt F) fd (gatherPayload hg (src.view.read (Elt F) fs) r) Finset.univ))
          ∗ (offs.view.loc c ↦[offs.view.set]{qo} fo) ∗ (src.view.loc c ↦[src.view.set]{q} fs)) := by
  iintro H
  ihave H' := Transfers.bigSep_sep_out _ _ _ $$ H
  icases H' with ⟨Hrows, Hrest⟩
  ihave Hrest' := Transfers.bigSep_sep_out _ _ _ $$ Hrest
  icases Hrest' with ⟨Hlist, Hsrc⟩
  isplitl [Hrows]
  · have hw : ∀ (k : Fin (s.size hg.axis')) (j : (s.rowShape hg.axis').Idx), src.view.read (Elt F) fs (hg.rowIdx (r k) j)
        = gatherPayload hg (src.view.read (Elt F) fs) r ((s.rowRect hg.axis' k).emb j) := fun k j => by
      unfold gatherPayload; rw [Shape.Gathers.idx_rowRect_emb]
    iapply (pointsTo_rows_write (Ix := Ix) (Name := Name) (U := U) (Lvl := Lvl) c dst.view hg.axis' fd _ _ hw)
    iexact Hrows
  isplitl [Hlist]
  · iapply (Entails.of_eq (pointsTo_entries c offs.view (entryAt hn) (entryAt_bijective hn) qo fo).symm) $$ Hlist
  · iapply (Entails.of_eq (pointsTo_piecesOf src.view.set fs ho q).symm) $$ Hsrc

end Row

section Issue

variable (EC : UEmb Counters (MT nD τ sig Ix (Elt F) Name U Lvl))
variable [Preorder Lvl] {Λ : Labels} {defs : Defs nD τ sig (Elt F) Λ} (𝒱 : Variants) (c : Thread nD τ) (bd : Option 𝒱.V)
variable {sp : Space} {s₀ s si : Shape} {e : EltTy} {a : Nat} {α : Type} {Q : α → sProp (MT nD τ sig Ix (Elt F) Name U Lvl)}

omit [Preorder Lvl] in
/-- The issue rights from the `j`-th on are the first `o` of them, numbered, and those from the `j + o`-th on. -/
theorem pending_take {n : ℕ} (Φ : Fin n → sProp 𝕄) (j o : ℕ) (h : j + o ≤ n) :
    bigSep (Transfers.pending (n := n) j) Φ
      ⊢ iprop(bigSep (Finset.univ : Finset (Fin o)) (fun i => Φ ⟨j + i.val, by omega⟩) ∗ bigSep (Transfers.pending (n := n) (j + o)) Φ) := by
  induction o with
  | zero => rw [show (Finset.univ : Finset (Fin 0)) = ∅ from rfl, BI.bigSep_empty]; exact emp_sep.2
  | succ o ih =>
    have hlt : j + o < n := by omega
    refine (ih (by omega)).trans ?_
    rw [Transfers.bigSep_pending_step Φ (j + o) hlt, show j + (o + 1) = j + o + 1 from rfl,
      show (Finset.univ : Finset (Fin (o + 1))) = insert (Fin.last o) (Finset.univ.map Fin.castSuccEmb) from by
        rw [Fin.univ_castSuccEmb, Finset.cons_eq_insert],
      BI.bigSep_insert (by simp [Fin.castSucc_ne_last]), BI.bigSep_map]
    have hl : j + (Fin.last o).val < n := hlt
    have hc : ∀ i : Fin o, j + (Fin.castSuccEmb i).val < n := fun i => by
      have := i.isLt
      have : (Fin.castSuccEmb i).val = i.val := rfl
      omega
    iintro ⟨H1, H2, H3⟩
    isplitr [H3]
    · iapply (show iprop(Φ ⟨j + (Fin.last o).val, hl⟩ ∗ bigSep Finset.univ fun i : Fin o => Φ ⟨j + (Fin.castSuccEmb i).val, hc i⟩)
        ⊢ BI.sep (Φ ⟨j + (Fin.last o).val, hl⟩) (bigSep Finset.univ fun i : Fin o => Φ ⟨j + (Fin.castSuccEmb i).val, hc i⟩) from .rfl)
      isplitl [H2]
      · iapply (show Φ ⟨j + o, hlt⟩ ⊢ Φ ⟨j + (Fin.last o).val, hl⟩ from Entails.of_eq rfl) $$ H2
      iexact H1
    · iexact H3

/-- The ISSUE of an indirect gather into a batch of row transfers on its semaphore's cell. The batch has `n` rows of
    `N` units; `j` of them are issued, `u` units of them consumed, and the gather's rows take the places
    `j … j + o - 1`, whose deliveries they entail (`hD`). The subcore holds a share of the source, the destination
    outright and a share of the list, every word of which is in range, and goes on with the batch, `o` more rows
    issued; all it handed in comes back with the batch's deliveries. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ho : 0 < s.size hg.axis') {n N j u : ℕ} {D : Fin n → sProp 𝕄} (ι : Ix)
    (hN : ∀ i, (dst.slice (s.rowRect hg.axis' i) (s.stride_rowRect hg.axis' i)).view.dmaCredit = N)
    (hin : ∀ x, (offs.view.read (Elt F) fo x).toNat < s₀.size hg.axis)
    (hj : j + s.size hg.axis' ≤ n) (hu : u ≤ j * N)
    (hD : ∀ i : Fin (s.size hg.axis'), rowOut c src dst hg offs hn ho q qo fs fd fo (rows (offs.view.read (Elt F) fo) hn hin) i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hagree : S.RowsAgree := by
    intro i x x' ρ ρ' h h'
    obtain ⟨_, _, rfl⟩ := Option.map_eq_some_iff.mp h
    obtain ⟨_, _, rfl⟩ := Option.map_eq_some_iff.mp h'
    rfl
  have hrow : ∀ i, S.row i (S.word fo i) = some (rd i) := fun i => by
    have h : rowOf (F := F) (s₀.size hg.axis) (offs.view.read (Elt F) fo (S.entry i)) = some (r i) := by
      unfold rowOf; rw [dif_pos (hin _)]; rfl
    change (rowOf (s₀.size hg.axis) (offs.view.read (Elt F) fo (S.entry i))).map _ = _
    rw [h]; rfl
  have hsum : ∑ i, (rd i).dst.view.dmaCredit = s.size hg.axis' * N := by
    rw [Finset.sum_congr rfl fun i _ => hN i, Finset.sum_const, Finset.card_univ, Fintype.card_fin, smul_eq_mul]
  unfold Transfers.Batch
  iintro ⟨Hs, Hd, Hl, ⟨%γ, %γ₀, %κ, #Hinv, HI, H0, Hcred⟩⟩ Hk
  ihave HI' := pending_take (fun t => count EC (γ t) 0) j (s.size hg.axis') hj $$ HI
  icases HI' with ⟨Hmine, HI⟩
  ihave Hd' := (Entails.of_eq (pointsTo_rows c dst.view hg.axis' fullShare fd)) $$ Hd
  ihave Hl' := (Entails.of_eq (pointsTo_entries c offs.view (entryAt hn) (entryAt_bijective hn) qo fo)) $$ Hl
  ihave Hs' := (Entails.of_eq (pointsTo_piecesOf src.view.set fs ho q)) $$ Hs
  have hput : ∀ i : Fin (s.size hg.axis'), iprop(inv κ (Transfers.batchBody EC (c, SemLoc.dma sem) N D γ γ₀)
        ∗ ((dst.view.loc c ↦[(dst.view.slice (s.rowRect hg.axis' i)).set]{fullShare} fd)
          ∗ (offs.view.loc c ↦[{offs.view.emb (entryAt hn i)}]{qo} fo)
          ∗ (src.view.loc c ↦[src.view.set]{pieceOf q _ ho i} fs) ∗ count EC (γ ⟨j + i.val, by omega⟩) 0))
      ⊢ iprop(S.heldEntry qo fo i ∗ (S.heldEntry qo fo i -∗ rowRes c (rd i))) := fun i => by
    iintro ⟨#Hinv, Hr, He, Hq, Hc⟩
    isplitl [He]; · iexact He
    iintro He
    unfold rowRes
    iexists pieceOf q _ ho i, fs, iprop((dst.view.loc c ↦[(dst.view.slice (s.rowRect hg.axis' i)).set]{fullShare}
      ((dst.view.slice (s.rowRect hg.axis' i)).write (Elt F) fd (fun x => src.view.read (Elt F) fs (hg.rowIdx (r i) x)) Finset.univ))
        ∗ S.heldEntry qo fo i)
    isplitl [Hq]; · iexact Hq
    isplitl [Hr He]
    · iapply writeUpdate_frame
      isplitl [Hr]
      · iapply (pointsTo_writeUpdate c (v := dst.view.slice (s.rowRect hg.axis' i)) subset_rfl) $$ Hr
      · iexact He
    · rw [show (rd i).dst.view.amount (SemLoc.dma sem) = N from hN i]
      iapply (Transfers.batch_creditUpdate EC (N := N) (D := D) (γ := γ) (γ₀ := γ₀) (ι := κ) ⟨j + i.val, by omega⟩ (by
        refine Entails.trans ?_ (hD i)
        iintro ⟨⟨H1, H2⟩, H3⟩
        isplitl [H1]; · iexact H1
        isplitl [H2]; · iexact H2
        iexact H3))
      isplitr; · iexact Hinv
      iexact Hc
  iapply (wp_enqueueIndirectDma 𝒱 c bd Set.univ (qo := qo) (fo := fo) (rd := rd) ι (s.size hg.axis' * N) hagree hrow hsum) $$ [Hd' Hl' Hs' Hmine]
  · unfold Stream.res
    ihave H1 := Transfers.bigSep_sep_in _ _ _ $$ [Hs' Hmine]; · isplitl [Hs'] <;> iassumption
    ihave H2 := Transfers.bigSep_sep_in _ _ _ $$ [Hl' H1]; · isplitl [Hl'] <;> iassumption
    ihave H3 := Transfers.bigSep_sep_in _ _ _ $$ [Hd' H2]; · isplitl [Hd'] <;> iassumption
    iapply (Transfers.bigSep_mono_pers Finset.univ _ _ _ fun i _ => hput i)
    isplitr; · iexact Hinv
    iexact H3
  iintro Hnew
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hnew as H
  iexact H

end Issue

end Cert.GatherBatch

end
-- ==== Proof.Ideal.Program.lean ====
/-
  A tile's program, written with loops.

  The printed kernel function is 32 unrolled index steps, 12 unrolled gathers, 12 unrolled waits and 32 unrolled
  arithmetic steps, cut into parts at places that have nothing to do with those steps. `tileProg` says the same
  operations as four loops between the copies in and the copy out, and `kernel_eq_tileProg` that the printed
  function IS that program. Everything that follows reasons about the loops.
-/
module

public import proofs.«01_k».proof.Proof.Gen.KernelIdeal.Skeleton
public import Idealize.ShloMosaic.Lib.SparseCore.Stream

@[expose] public section

noncomputable section

namespace Cert.KernelIdeal.Tile

open Cert.KernelIdeal Cert.KernelIdeal.Gen
open Idealize.ShloMosaic Idealize.SL.Sem

variable {F : FTy → Type} [FloatOps F]

/-! ## The buffers as a tile names them -/

/-- The argument `x` in HBM. -/
abbrev xH : Memref sig .scVector .hbm S16384 .f32 := Memref.whole main_arg0_scv
/-- The argument `drug_id` in HBM. -/
abbrev drugH : Memref sig .scVector .hbm S16384 .i32 := Memref.whole main_arg1_scv
/-- The argument `cell_id` in HBM. -/
abbrev cellH : Memref sig .scVector .hbm S16384 .i32 := Memref.whole main_arg2_scv
/-- The three flattened tables in HBM: `b`, `e`, `d`. -/
abbrev tabH : Fin 3 → Memref sig .scVector .hbm S3000000 .f32
  | 0 => Memref.whole main_v0_scv
  | 1 => Memref.whole main_v1_scv
  | 2 => Memref.whole main_v2_scv
/-- The result in HBM. -/
abbrev outH : Memref sig .scVector .hbm S16384 .f32 := Memref.whole main_v3_scv
/-- The tile's copy of its part of `x`, which becomes its part of the result. -/
abbrev xS : Memref sig .scVector .vmem S512 .f32 := Memref.whole cc0_scratch0
/-- The tile's drug numbers, which become its flat row numbers. -/
abbrev idxS : Memref sig .scVector .vmem S512 .i32 := Memref.whole cc0_scratch1
/-- The tile's cell numbers. -/
abbrev cellS : Memref sig .scVector .vmem S512 .i32 := Memref.whole cc0_scratch2
/-- Where the gathered entries of the three tables go. -/
abbrev gotS : Fin 3 → Memref sig .scVector .vmem S512 .f32
  | 0 => Memref.whole cc0_scratch3
  | 1 => Memref.whole cc0_scratch4
  | 2 => Memref.whole cc0_scratch5

/-- The 512 elements of an argument or of the result that the tile at `L` works on. -/
abbrev blk (L : grid0.Coords) : Rect S16384 := Rect.unit (s := S16384) (k0_off1 L) S512.size (k0_off1_inb L)

theorem inb_lane (j : Fin 32) : ∀ a, (![16 * j.val] : Fin 1 → Nat) a + S16.size a ≤ S512.size a := by
  intro a; match a with | 0 => show 16 * j.val + 16 ≤ 512; omega
theorem inb_chunk (j : Fin 4) : ∀ a, (![128 * j.val] : Fin 1 → Nat) a + S128.size a ≤ S512.size a := by
  intro a; match a with | 0 => show 128 * j.val + 128 ≤ 512; omega

/-- The sixteen lanes of step `j`. -/
abbrev lane (j : Fin 32) : Rect S512 := Rect.unit (s := S512) ![16 * j.val] S16.size (inb_lane j)
/-- The 128 elements of chunk `j`. -/
abbrev chunk (j : Fin 4) : Rect S512 := Rect.unit (s := S512) ![128 * j.val] S128.size (inb_chunk j)

/-- A table, as a gather names it: all of it. -/
abbrev tabAll (t : Fin 3) : Memref sig .scVector .hbm S3000000 .f32 :=
  (tabH t).slice (Rect.unit (s := S3000000) ![0] S3000000.size inb_S3000000_S3000000_0) (fun _ => rfl)
/-- The list of chunk `j`. -/
abbrev listOf (j : Fin 4) : Memref sig .scVector .vmem S128 .i32 := idxS.slice (chunk j) (fun _ => rfl)
/-- The destination of table `t`'s gather of chunk `j`. -/
abbrev destOf (t : Fin 3) (j : Fin 4) : Memref sig .scVector .vmem S128 .f32 := (gotS t).slice (chunk j) (fun _ => rfl)

/-! ## The arithmetic of one step -/

/-- Sixteen flat row numbers from sixteen drug numbers and sixteen cell numbers. -/
def flatVec (p c : Vec F S16 .i32) : IVec S16 32 :=
  shapeCast S16 (addi (muli (shapeCast S16 p shapeCasts_S16_S16 : IVec S16 32) (broadcast S16 1500#32)) (shapeCast S16 c shapeCasts_S16_S16))
    shapeCasts_S16_S16

/-- Sixteen results from sixteen entries of `b`, of `x`, of `e` and of `d`. -/
def rateVec (b x e d : Vec F S16 .f32) : FVec F S16 .f32 :=
  shapeCast S16
    (divf (shapeCast S16 d shapeCasts_S16_S16 : FVec F S16 .f32)
      (addf (broadcast S16 (Scalar.ofBits .f32 0x3F800000#32 : F .f32))
        (exp (subf (broadcast S16 (Scalar.ofBits .f32 0x00000000#32 : F .f32))
          (mulf (shapeCast S16 b shapeCasts_S16_S16 : FVec F S16 .f32)
            (addf (shapeCast S16 x shapeCasts_S16_S16 : FVec F S16 .f32) (shapeCast S16 e shapeCasts_S16_S16)))))))
    shapeCasts_S16_S16

/-! ## The program -/

variable (F) in
/-- A program of the vector subcore at `L`. -/
abbrev TProg (L : grid0.Coords) (A : Type) : Type 1 :=
  Prog (TpuEff nD τ sig (Elt F) Λ₀ (.scVector ((L 0).castLE hcore0) ((L 1).castLE hsub0))) A

/-- Steps `j`, …, `j + k - 1`, in order. -/
def loop {L : grid0.Coords} (n : ℕ) (step : Fin n → TProg F L PUnit) : (k j : ℕ) → j + k = n → TProg F L PUnit
  | 0, _, _ => pure ⟨⟩
  | k + 1, j, h => do
    step ⟨j, by omega⟩
    loop n step k (j + 1) (by omega)

/-- One index step: the drug numbers of sixteen lanes replaced by their flat row numbers. -/
def idxStep (L : grid0.Coords) (j : Fin 32) : TProg F L PUnit := do
  let p : Vec F S16 .i32 ← Prog.lift (.load idxS (lane j).toLoadRect (View.loadsAt_vmem h_S16))
  let c : Vec F S16 .i32 ← Prog.lift (.load cellS (lane j).toLoadRect (View.loadsAt_vmem h_S16))
  let _ : Vec F S16 .i32 ← Prog.lift (.load idxS (lane j).toLoadRect (View.loadsAt_vmem h_S16))
  Prog.lift (.store idxS (lane j) (flatVec (F := F) p c) Finset.univ (View.stores_vmem_bits_univ h_S16 rfl) (.inl rfl))

/-- One arithmetic step: sixteen entries of `x` replaced by sixteen results. -/
def rateStep (L : grid0.Coords) (j : Fin 32) : TProg F L PUnit := do
  let b : Vec F S16 .f32 ← Prog.lift (.load (gotS 0) (lane j).toLoadRect (View.loadsAt_vmem h_S16))
  let x : Vec F S16 .f32 ← Prog.lift (.load xS (lane j).toLoadRect (View.loadsAt_vmem h_S16))
  let e : Vec F S16 .f32 ← Prog.lift (.load (gotS 1) (lane j).toLoadRect (View.loadsAt_vmem h_S16))
  let d : Vec F S16 .f32 ← Prog.lift (.load (gotS 2) (lane j).toLoadRect (View.loadsAt_vmem h_S16))
  let _ : Vec F S16 .f32 ← Prog.lift (.load xS (lane j).toLoadRect (View.loadsAt_vmem h_S16))
  Prog.lift (.store xS (lane j) (rateVec (F := F) b x e d) Finset.univ (View.stores_vmem_bits_univ h_S16 rfl) (.inl rfl))

/-- Gather `g`: table `g % 3` at the row numbers of chunk `g / 3`. -/
def gatherStep (L : grid0.Coords) (g : Fin (4 * 3)) : TProg F L PUnit :=
  SparseCore.enqueueIndirectGather rfl (tabAll g.modNat) (destOf g.modNat g.divNat) gathers_S3000000_S128 (listOf g.divNat) rfl
    cc0_scratch6.sem (View.wordExact_bits rfl) rfl (Or.inl rfl)

/-- The wait of gather `g`'s units. -/
def waitStep (L : grid0.Coords) (g : Fin (4 * 3)) : TProg F L PUnit :=
  SparseCore.waitIndirectGather cc0_scratch6.sem (tabAll g.modNat) (destOf g.modNat g.divNat) (View.wordExact_bits rfl) (View.wordExact_bits rfl)

/-- The three copies in. -/
def copyIn (L : grid0.Coords) : TProg F L PUnit := do
  Prog.lift (.enqueueDma (drugH.slice (blk L) (fun _ => rfl)) (.here idxS) (.dma cc0_scoped0.sem) (View.wordExact_bits rfl) (Memref.isWhole_whole _).wordExact ⟨Or.inl rfl, trivial⟩)
  Prog.lift (.waitDma2 cc0_scoped0.sem (drugH.slice (blk L) (fun _ => rfl)) idxS (View.wordExact_bits rfl) (Memref.isWhole_whole _).wordExact)
  Prog.lift (.enqueueDma (cellH.slice (blk L) (fun _ => rfl)) (.here cellS) (.dma cc0_scoped1.sem) (View.wordExact_bits rfl) (Memref.isWhole_whole _).wordExact ⟨Or.inl rfl, trivial⟩)
  Prog.lift (.waitDma2 cc0_scoped1.sem (cellH.slice (blk L) (fun _ => rfl)) cellS (View.wordExact_bits rfl) (Memref.isWhole_whole _).wordExact)
  Prog.lift (.enqueueDma (xH.slice (blk L) (fun _ => rfl)) (.here xS) (.dma cc0_scoped2.sem) (View.wordExact_bits rfl) (Memref.isWhole_whole _).wordExact ⟨Or.inl rfl, trivial⟩)
  Prog.lift (.waitDma2 cc0_scoped2.sem (xH.slice (blk L) (fun _ => rfl)) xS (View.wordExact_bits rfl) (Memref.isWhole_whole _).wordExact)

/-- The copy of the results out. -/
def copyOut (L : grid0.Coords) : TProg F L PUnit := do
  Prog.lift (.enqueueDma xS (.here (outH.slice (blk L) (fun _ => rfl))) (.dma cc0_scoped3.sem) (Memref.isWhole_whole _).wordExact (View.wordExact_bits rfl) ⟨Or.inl rfl, trivial⟩)
  Prog.lift (.waitDma2 cc0_scoped3.sem xS (outH.slice (blk L) (fun _ => rfl)) (Memref.isWhole_whole _).wordExact (View.wordExact_bits rfl))

/-- The tile's program. -/
def tileProg (L : grid0.Coords) : TProg F L PUnit := do
  copyIn L
  loop 32 (idxStep L) 32 0 rfl
  loop (4 * 3) (gatherStep L) 12 0 rfl
  loop (4 * 3) (waitStep L) 12 0 rfl
  loop 32 (rateStep L) 32 0 rfl
  copyOut L
  pure ⟨⟩

set_option maxRecDepth 65536 in
set_option maxHeartbeats 4000000 in
/-- The printed kernel function, at the launch's buffers, is `tileProg`: by definitional unfolding. -/
theorem kernel_eq_tileProg (L : grid0.Coords) :
    cc0_sc_kernel (F := F) L xH (Memref.isWhole_whole _) drugH (Memref.isWhole_whole _) cellH (Memref.isWhole_whole _)
      (Memref.whole main_v0_scv) (Memref.isWhole_whole _) (Memref.whole main_v1_scv) (Memref.isWhole_whole _) (Memref.whole main_v2_scv) (Memref.isWhole_whole _)
      outH (Memref.isWhole_whole _) xS (Memref.isWhole_whole _) idxS (Memref.isWhole_whole _) cellS (Memref.isWhole_whole _)
      (Memref.whole cc0_scratch3) (Memref.isWhole_whole _) (Memref.whole cc0_scratch4) (Memref.isWhole_whole _) (Memref.whole cc0_scratch5) (Memref.isWhole_whole _)
      cc0_scratch6 cc0_scoped0 cc0_scoped1 cc0_scoped2 cc0_scoped3
      = tileProg L := by
  rfl

end Cert.KernelIdeal.Tile

end
-- ==== Proof.Ideal.Base.lean ====
/-
  The launch as its theorem sees it, and the resource algebra of the proof: the handshakes' rounds and the
  transfers' counters.
-/
module

public import proofs.«01_k».proof.Proof.Ideal.Program
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra -/

abbrev UH : Type := URounds (GSem nD τ sig) ℕ
abbrev UU : Type := UH × Counters

local notation "𝕄" => MT nD τ sig (SparseCore.Cfg.HIx 1) (Elt F) ℕ UU ℕ

abbrev EH : Emb UH (MT nD τ sig (SparseCore.Cfg.HIx 1) (Elt F) ℕ UU ℕ) := embL

/-- The core and the subcore of the tile at `L`, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What a program of the tile at `L` must leave, to leave `Q`. -/
abbrev wpT [FloatOps F] (d : Dev nD) (L : grid0.Coords) {A : Type} (p : TProg F L A) (Q : A → sProp 𝕄) : sProp 𝕄 :=
  wp frame (wpE (defs₀ (F := F)) 𝒱₀ (thr d L) none) Set.univ p Q

variable [FloatOps F]

/-- A loop from step `j` on carries an invariant that every step carries. -/
theorem wp_loop (d : Dev nD) (L : grid0.Coords) (n : ℕ) (step : Fin n → TProg F L PUnit) (I : ℕ → sProp 𝕄)
    (hstep : ∀ j : Fin n, I j.val ⊢ wpT d L (step j) fun _ => I (j.val + 1)) :
    ∀ (k j : ℕ) (h : j + k = n), I j ⊢ wpT d L (loop n step k j h) fun _ => I n
  | 0, j, h => by
    obtain rfl : j = n := by omega
    show I j ⊢ wp _ _ _ (pure PUnit.unit) _
    rw [wp_pure]
    exact fupd_intro (Fr := frame)
  | k + 1, j, h => by
    show I j ⊢ wp _ _ _ (step ⟨j, by omega⟩ >>= fun _ => loop n step k (j + 1) (by omega)) _
    rw [wp_bind]
    exact (hstep ⟨j, by omega⟩).trans (wp_mono _ _ _ fun _ => wp_loop d L n step I hstep k (j + 1) (by omega))

/-- A program's specification used with something else to carry along: what must follow from its postcondition. -/
theorem wpT_then (d : Dev nD) (L : grid0.Coords) {A : Type} {p : TProg F L A} {P : sProp 𝕄} {Q Q' : A → sProp 𝕄} (h : P ⊢ wpT d L p Q) :
    P ⊢ iprop((∀ a, Q a -∗ Q' a) -∗ wpT d L p Q') := h.trans (wp_wand _ _ _)

/-- A program's specification used at the head of a longer program. -/
theorem wpT_seq (d : Dev nD) (L : grid0.Coords) {A B : Type} {p : TProg F L A} {k : A → TProg F L B} {P : sProp 𝕄} {Q : A → sProp 𝕄} {R : B → sProp 𝕄}
    (h : P ⊢ wpT d L p Q) : P ⊢ iprop((∀ a, Q a -∗ wpT d L (k a) R) -∗ wpT d L (p >>= k) R) := by
  unfold wpT
  rw [wp_bind]
  exact wpT_then d L h

end Cert.KernelIdeal.Tile

end
-- ==== Proof.Ideal.Gathers.lean ====
/-
  A tile's twelve gathers: all started on one semaphore, then all waited for.

  Gather `g` takes table `g % 3` at the flat row numbers of chunk `g / 3`. The twelve are one counted batch of
  1536 row transfers; each start hands in the gather's destination, its share of the row numbers and its share of the
  table, no wait is known to drain the semaphore before the last, and after the twelfth the whole batch is collected:
  every destination chunk holds the table's entries at the chunk's row numbers, and every share is back.
-/
module

public import proofs.«01_k».proof.Proof.Ideal.Base

@[expose] public section

noncomputable section

namespace Cert.KernelIdeal.Tile

open Cert.KernelIdeal Cert.KernelIdeal.Gen Cert.GatherBatch
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

variable (d : Dev nD) (L : grid0.Coords)

/-- The units one row of a gather credits. -/
abbrev rowUnits : ℕ := 32

theorem row_credit (t : Fin 3) (j : Fin 4) (i : Fin (S128.size gathers_S3000000_S128.axis')) :
    ((destOf t j).slice (S128.rowRect gathers_S3000000_S128.axis' i) (S128.stride_rowRect gathers_S3000000_S128.axis' i)).view.dmaCredit = rowUnits := by
  match t with
  | 0 => rfl
  | 1 => rfl
  | 2 => rfl

theorem dest_credit (t : Fin 3) (j : Fin 4) : (destOf t j).view.dmaCredit = 128 * rowUnits := by
  match t with
  | 0 => rfl
  | 1 => rfl
  | 2 => rfl

theorem four_pos : 0 < 4 := by decide
theorem three_pos : 0 < 3 := by decide
theorem rows_pos : 0 < S128.size gathers_S3000000_S128.axis' := by decide

section Family

variable (q : PosShare TreeShare) (tab : (t : Fin 3) → Buf (Elt F) ((tabH t).view.loc (thr d L)))
  (fd : (t : Fin 3) → Buf (Elt F) ((gotS t).view.loc (thr d L))) (w : S512.Idx → BitVec 32) (hw : ∀ i, (w i).toNat < 3000000)

/-- The row numbers as the contents of the tile's list buffer. -/
abbrev listBuf : Buf (Elt F) ((idxS).view.loc (thr d L)) := w

/-- What the start of gather `g` hands in: its share of the table, its destination, its share of the list. -/
abbrev gatherIn (g : Fin (4 * 3)) : sProp 𝕄 :=
  iprop(((tabAll g.modNat).view.loc (thr d L) ↦[(tabAll g.modNat).view.set]{pieceOf q 4 four_pos g.divNat} tab g.modNat)
    ∗ ((destOf g.modNat g.divNat).view.loc (thr d L) ↦[(destOf g.modNat g.divNat).view.set]{fullShare} fd g.modNat)
    ∗ ((listOf g.divNat).view.loc (thr d L) ↦[(listOf g.divNat).view.set]{pieceOf fullShare 3 three_pos g.modNat} listBuf (F := F) d L w))

include hw in
theorem list_inb (j : Fin 4) (x : S128.Idx) :
    ((listOf j).view.read (Elt F) (listBuf (F := F) d L w) x).toNat < S3000000.size gathers_S3000000_S128.axis := hw _

/-- The rows gather `g` takes. -/
abbrev gatherRows (g : Fin (4 * 3)) : Fin (S128.size gathers_S3000000_S128.axis') → Fin (S3000000.size gathers_S3000000_S128.axis) :=
  rows ((listOf g.divNat).view.read (Elt F) (listBuf (F := F) d L w)) rfl (list_inb (F := F) d L w hw g.divNat)

/-- What row `i` of gather `g` hands back. -/
abbrev rowBack (g : Fin (4 * 3)) (i : Fin (S128.size gathers_S3000000_S128.axis')) : sProp 𝕄 :=
  rowOut (thr d L) (tabAll g.modNat) (destOf g.modNat g.divNat) gathers_S3000000_S128 (listOf g.divNat) rfl rows_pos
    (pieceOf q 4 four_pos g.divNat) (pieceOf fullShare 3 three_pos g.modNat) (tab g.modNat) (fd g.modNat) (listBuf (F := F) d L w)
    (gatherRows (F := F) d L w hw g) i

/-- The batch's family: transfer `128 * g + i` is row `i` of gather `g`. -/
def family (t : Fin (4 * 3 * 128)) : sProp 𝕄 := rowBack d L q tab fd w hw t.divNat t.modNat

theorem family_at (g : Fin (4 * 3)) (i : Fin 128) (h : 128 * g.val + i.val < 4 * 3 * 128) :
    family d L q tab fd w hw ⟨128 * g.val + i.val, h⟩ = rowBack d L q tab fd w hw g i := by
  unfold family
  have h1 : (⟨128 * g.val + i.val, h⟩ : Fin (4 * 3 * 128)).divNat = g := Fin.ext (by
    show (128 * g.val + i.val) / 128 = g.val; omega)
  have h2 : (⟨128 * g.val + i.val, h⟩ : Fin (4 * 3 * 128)).modNat = i := Fin.ext (by
    show (128 * g.val + i.val) % 128 = i.val; omega)
  rw [h1, h2]

instance family_storable (t : Fin (4 * 3 * 128)) : BI.Storable (upEmb : UEmb _ 𝕄) (family d L q tab fd w hw t) := by
  unfold family; infer_instance

/-- The twelve gathers' batch on the tile's semaphore, `k` of its transfers started and `u` of its units consumed. -/
abbrev gatherBatch (k u : ℕ) : sProp 𝕄 :=
  Transfers.Batch countersEmb (thr d L) (.dma cc0_scratch6.sem) (default : SparseCore.Cfg.HIx 1) rowUnits (family d L q tab fd w hw) k u

/-- The start of gather `g`. -/
theorem gatherStep_spec (g : Fin (4 * 3)) :
    (iprop(gatherIn d L q tab fd w g ∗ gatherBatch d L q tab fd w hw (128 * g.val) 0) : sProp 𝕄)
      ⊢ wpT d L (gatherStep (F := F) L g) fun _ => gatherBatch d L q tab fd w hw (128 * (g.val + 1)) 0 := by
  unfold wpT gatherStep
  iintro ⟨⟨Ht, Hd, Hl⟩, HB⟩
  have hg : g.val < 12 := g.isLt
  iapply (wp_gatherBatch countersEmb 𝒱₀ (thr d L) none (hp := rfl) (hsrc := View.wordExact_bits rfl) (he := rfl) (hsp := Or.inl rfl) (hr := by decide)
      (k := fun _ => pure PUnit.unit) rows_pos (default : SparseCore.Cfg.HIx 1)
      (row_credit g.modNat g.divNat) (list_inb (F := F) d L w hw g.divNat) (show 128 * g.val + 128 ≤ 4 * 3 * 128 by omega) (Nat.zero_le _)
      (fun i => Entails.of_eq (family_at d L q tab fd w hw g i _).symm)) $$ [Ht Hd Hl HB]
  · isplitl [Ht]; · iexact Ht
    isplitl [Hd]; · iexact Hd
    isplitl [Hl]; · iexact Hl
    iexact HB
  iintro HB
  rw [wp_pure]
  imodintro
  iexact HB

/-- All twelve starts. -/
theorem gatherLoop_spec :
    (iprop((bigSep Finset.univ fun g => gatherIn d L q tab fd w g) ∗ gatherBatch d L q tab fd w hw 0 0) : sProp 𝕄)
      ⊢ wpT d L (loop (4 * 3) (gatherStep (F := F) L) 12 0 rfl) fun _ => gatherBatch d L q tab fd w hw (4 * 3 * 128) 0 := by
  have h := wp_loop d L (4 * 3) (gatherStep (F := F) L)
    (fun k => iprop(bigSep (Transfers.pending (n := 4 * 3) k) (fun g => gatherIn d L q tab fd w g) ∗ gatherBatch d L q tab fd w hw (128 * k) 0))
    (fun g => by
      rw [Transfers.bigSep_pending_step _ g.val g.isLt]
      iintro ⟨⟨Hg, Hrest⟩, HB⟩
      iapply (wpT_then d L (gatherStep_spec d L q tab fd w hw g)) $$ [Hg HB]
      · isplitl [Hg]; · iexact Hg
        iexact HB
      iintro %_ HB
      isplitl [Hrest]; · iexact Hrest
      iexact HB) 12 0 rfl
  rw [Transfers.bigSep_pending_zero]
  refine h.trans (wp_mono _ _ _ fun _ => ?_)
  iintro ⟨-, HB⟩
  iexact HB

/-- The wait of gather `g`'s units, none of which is known to be the last. -/
theorem waitStep_spec (g : Fin (4 * 3)) (O : CellTallies nD τ sig (SparseCore.Cfg.HIx 1)) (W : Waits sig (SparseCore.Cfg.HIx 1)) :
    (iprop(gatherBatch d L q tab fd w hw (4 * 3 * 128) (128 * rowUnits * g.val) ∗ owes (thr d L) O W
        ∗ Transfers.MayWaits (thr d L) (default : SparseCore.Cfg.HIx 1) O) : sProp 𝕄)
      ⊢ wpT d L (waitStep (F := F) L g) fun _ => iprop(gatherBatch d L q tab fd w hw (4 * 3 * 128) (128 * rowUnits * (g.val + 1))
          ∗ owes (thr d L) O (insert (SemLoc.dma cc0_scratch6.sem, default) W) ∗ Transfers.MayWaits (thr d L) (default : SparseCore.Cfg.HIx 1) O) := by
  unfold wpT waitStep
  iintro ⟨HB, HO, #Hmw⟩
  have hg : g.val < 12 := g.isLt
  iapply (Transfers.wp_waitBatchMulO countersEmb 𝒱₀ (thr d L) none (k := fun _ => pure PUnit.unit) (default : SparseCore.Cfg.HIx 1) (N := rowUnits) 128
      (dest_credit g.modNat g.divNat) (show 128 * rowUnits * g.val + 128 * rowUnits ≤ rowUnits * (4 * 3 * 128) by
        show 128 * 32 * g.val + 128 * 32 ≤ 32 * (4 * 3 * 128); omega)) $$ [HB HO]
  · isplitl [HB]; · iexact HB
    isplitl [HO]; · iexact HO
    iapply (Transfers.MayWaits.elim (SemLoc.dma cc0_scratch6.sem)) $$ Hmw
  iintro ⟨HB, HO⟩
  rw [wp_pure]
  imodintro
  isplitl [HB]; · iexact HB
  isplitl [HO]; · iexact HO
  iexact Hmw

/-- All twelve waits: every unit of the batch consumed. -/
theorem waitLoop_spec (O : CellTallies nD τ sig (SparseCore.Cfg.HIx 1)) (W : Waits sig (SparseCore.Cfg.HIx 1)) :
    (iprop(gatherBatch d L q tab fd w hw (4 * 3 * 128) 0 ∗ owes (thr d L) O W ∗ Transfers.MayWaits (thr d L) (default : SparseCore.Cfg.HIx 1) O) : sProp 𝕄)
      ⊢ wpT d L (loop (4 * 3) (waitStep (F := F) L) 12 0 rfl) fun _ => iprop(gatherBatch d L q tab fd w hw (4 * 3 * 128) (rowUnits * (4 * 3 * 128))
          ∗ ∃ W', ⌜∀ p ∈ W', p ∈ W ∨ p.2 = none⌝ ∗ owes (thr d L) O W') := by
  have h := wp_loop d L (4 * 3) (waitStep (F := F) L)
    (fun k => iprop(∃ W', ⌜∀ p ∈ W', p ∈ W ∨ p.2 = none⌝ ∗ gatherBatch d L q tab fd w hw (4 * 3 * 128) (128 * rowUnits * k) ∗ owes (thr d L) O W'
      ∗ Transfers.MayWaits (thr d L) (default : SparseCore.Cfg.HIx 1) O))
    (fun g => by
      iintro ⟨%W', %hW', H⟩
      iapply (wpT_then d L (waitStep_spec d L q tab fd w hw g O W')) $$ H
      iintro %_ ⟨HB, HO, Hmw⟩
      iexists (insert (SemLoc.dma cc0_scratch6.sem, default) W')
      isplitr
      · ipureintro; intro p hp
        rcases Finset.mem_insert.mp hp with hp | hp
        · exact .inr (hp ▸ rfl)
        · exact hW' p hp
      isplitl [HB]; · iexact HB
      isplitl [HO]; · iexact HO
      iexact Hmw) 12 0 rfl
  refine BI.BIBase.Entails.trans ?_ (h.trans (wp_mono _ _ _ fun _ => ?_))
  · iintro ⟨HB, HO, Hmw⟩
    iexists W
    isplitr; · ipureintro; exact fun p hp => .inl hp
    isplitl [HB]; · iexact HB
    isplitl [HO]; · iexact HO
    iexact Hmw
  · iintro ⟨%W', %hW', HB, HO, -⟩
    isplitl [HB]; · iexact HB
    iexists W'
    isplitr; · ipureintro; exact hW'
    iexact HO

end Family

end Cert.KernelIdeal.Tile

end
-- ==== Proof.Ideal.Steps.lean ====
/-
  The two unrolled computations of a tile, a step at a time.

  The index phase turns the tile's 512 drug numbers into flat row numbers, sixteen lanes a step; the arithmetic
  phase turns its 512 entries of `x` into results. Before step `k` of either the buffer holds the finished values on
  its first `16 * k` elements and the original ones on the rest.
-/
module

public import proofs.«01_k».proof.Proof.Ideal.Base

@[expose] public section

noncomputable section

namespace Cert.KernelIdeal.Tile

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 1) (Elt F) ℕ UU ℕ

/-! ## The values -/

/-- Flat row numbers: drug number times 1500 plus cell number. -/
def flatOf {s : Shape} (p c : IVec s 32) : IVec s 32 := addi (muli p (broadcast s 1500#32)) c

/-- The results: `d / (1 + exp (0 - b * (x + e)))`. -/
def rateOf [FloatOps F] {s : Shape} (b x e d : FVec F s .f32) : FVec F s .f32 :=
  divf d (addf (broadcast s (Scalar.ofBits .f32 0x3F800000#32 : F .f32))
    (exp (subf (broadcast s (Scalar.ofBits .f32 0x00000000#32 : F .f32)) (mulf b (addf x e)))))

/-- `new` on the first `16 * k` elements, `old` on the rest. -/
def upTo {α : Type} (old new : S512.Idx → α) (k : ℕ) : S512.Idx → α := fun i => if (i 0).val < 16 * k then new i else old i

theorem upTo_zero {α : Type} (old new : S512.Idx → α) : upTo old new 0 = old := by
  funext i; simp [upTo]
theorem upTo_full {α : Type} (old new : S512.Idx → α) : upTo old new 32 = new := by
  funext i; have h : (i 0).val < 512 := (i 0).isLt
  simp only [upTo]; rw [if_pos (by omega)]

theorem mem_lane (j : Fin 32) (i : S512.Idx) : i ∈ (lane j).set ↔ 16 * j.val ≤ (i 0).val ∧ (i 0).val < 16 * j.val + 16 := by
  rw [Rect.mem_set_unit]
  exact ⟨fun h => h 0, fun h a => match a with | 0 => h⟩

theorem lane_emb_val (j : Fin 32) (x : (lane j).shape.Idx) : ((lane j).emb x 0).val = 16 * j.val + (x 0).val := by
  show 16 * j.val + 1 * (x 0).val = _; omega

/-- Step `j`'s lanes still hold the original values before it. -/
theorem upTo_lane {α : Type} (old new : S512.Idx → α) (j : Fin 32) (x : (lane j).shape.Idx) :
    upTo old new j.val ((lane j).emb x) = old ((lane j).emb x) := by
  have h := lane_emb_val j x
  simp only [upTo]; rw [if_neg (by omega)]

/-- A buffer whose elements stand in order, written with the finished values on step `j`'s lanes: the next contents. -/
theorem read_upTo {κ : Kind} {sp : Space} {e : EltTy} (v : View sig κ sp S512 e) (f : v.ty.Contents (Elt F)) (old new : S512.Idx → Elt F e) (j : Fin 32)
    (w : (lane j).shape.Idx → Elt F e) (hf : v.read (Elt F) f = upTo old new j.val) (hw : ∀ x, w x = new ((lane j).emb x)) :
    v.read (Elt F) (v.writes (Elt F) f [⟨lane j, w⟩]) = upTo old new (j.val + 1) := by
  funext i
  by_cases hi : i ∈ (lane j).set
  · have hb := (mem_lane j i).mp hi
    obtain ⟨x, rfl⟩ : ∃ x, (lane j).emb x = i := (lane j).exists_idx_of_mem hi
    refine (View.read_writes_cons_emb v f (lane j) w [] x).trans ?_
    rw [hw]
    simp only [upTo]; rw [if_pos (by omega)]
  · have hb : ¬(16 * j.val ≤ (i 0).val ∧ (i 0).val < 16 * j.val + 16) := fun h => hi ((mem_lane j i).mpr h)
    refine (View.read_writes_apply_of_forall_not_mem v f i [⟨lane j, w⟩] (by simpa using hi)).trans ?_
    rw [hf]
    simp only [upTo]
    by_cases h : (i 0).val < 16 * j.val
    · rw [if_pos h, if_pos (by omega)]
    · rw [if_neg h, if_neg (by omega)]

theorem flatVec_apply (p c : Vec F S16 .i32) : (flatVec p c : IVec S16 32) = flatOf (s := S16) p c := by
  unfold flatVec flatOf
  rw [shapeCast_self, shapeCast_self, shapeCast_self]

theorem rateVec_apply [FloatOps F] (b x e d : Vec F S16 .f32) : rateVec (F := F) b x e d = rateOf (s := S16) b x e d := by
  unfold rateVec rateOf
  rw [shapeCast_self, shapeCast_self, shapeCast_self, shapeCast_self, shapeCast_self]

variable [FloatOps F]
variable (d : Dev nD) (L : grid0.Coords)

/-- The tile's buffers, at contents `f`. -/
abbrev idxPts (f : S512.Idx → BitVec 32) : sProp 𝕄 := (idxS).view.loc (thr d L) ↦{fullShare} (f : Buf (Elt F) ((idxS).view.loc (thr d L)))
abbrev cellPts (f : S512.Idx → BitVec 32) : sProp 𝕄 := (cellS).view.loc (thr d L) ↦{fullShare} (f : Buf (Elt F) ((cellS).view.loc (thr d L)))
abbrev xPts (f : S512.Idx → F .f32) : sProp 𝕄 := (xS).view.loc (thr d L) ↦{fullShare} (f : Buf (Elt F) ((xS).view.loc (thr d L)))

theorem idxStep_spec (p c : S512.Idx → BitVec 32) (j : Fin 32) :
    (iprop(idxPts (F := F) d L (upTo p (flatOf p c) j.val) ∗ cellPts (F := F) d L c) : sProp 𝕄)
      ⊢ wpT d L (idxStep (F := F) L j) fun _ => iprop(idxPts (F := F) d L (upTo p (flatOf p c) (j.val + 1)) ∗ cellPts (F := F) d L c) := by
  unfold wpT idxStep
  iintro ⟨Hi, Hc⟩
  sl_exec
  sl_step
  isplitl [Hi]
  · iapply (Entails.of_eq (congrArg (idxPts (F := F) d L) ((View.read_whole (Val := Elt F) cc0_scratch1 _).symm.trans ?_))) $$ Hi
    exact read_upTo (idxS).view (upTo p (flatOf p c) j.val) p (flatOf p c) j _ rfl fun x => by
      rw [flatVec_apply]
      show IntOp.addi (IntOp.muli (upTo p (flatOf p c) j.val ((lane j).emb x)) 1500#32) (c ((lane j).emb x)) = _
      rw [upTo_lane]; rfl
  iexact Hc

/-- A gathered buffer of the tile, at contents `f`. -/
abbrev gotPts (t : Fin 3) (f : S512.Idx → F .f32) : sProp 𝕄 := match t with
  | 0 => (gotS 0).view.loc (thr d L) ↦{fullShare} (f : Buf (Elt F) ((gotS 0).view.loc (thr d L)))
  | 1 => (gotS 1).view.loc (thr d L) ↦{fullShare} (f : Buf (Elt F) ((gotS 1).view.loc (thr d L)))
  | 2 => (gotS 2).view.loc (thr d L) ↦{fullShare} (f : Buf (Elt F) ((gotS 2).view.loc (thr d L)))

/-- One arithmetic step. -/
theorem rateStep_spec (b x e dd : S512.Idx → F .f32) (j : Fin 32) :
    (iprop(xPts (F := F) d L (upTo x (rateOf b x e dd) j.val) ∗ gotPts d L 0 b ∗ gotPts d L 1 e ∗ gotPts d L 2 dd) : sProp 𝕄)
      ⊢ wpT d L (rateStep (F := F) L j) fun _ =>
          iprop(xPts (F := F) d L (upTo x (rateOf b x e dd) (j.val + 1)) ∗ gotPts d L 0 b ∗ gotPts d L 1 e ∗ gotPts d L 2 dd) := by
  unfold wpT rateStep
  iintro ⟨Hx, Hb, He, Hd⟩
  sl_exec
  sl_step
  isplitl [Hx]
  · iapply (Entails.of_eq (congrArg (xPts (F := F) d L) ((View.read_whole (Val := Elt F) cc0_scratch0 _).symm.trans ?_))) $$ Hx
    exact read_upTo (xS).view (upTo x (rateOf b x e dd) j.val) x (rateOf b x e dd) j _ rfl fun y => by
      rw [rateVec_apply]
      show rateOf (s := S16) (fun y => b ((lane j).emb y)) (fun y => upTo x (rateOf b x e dd) j.val ((lane j).emb y))
        (fun y => e ((lane j).emb y)) (fun y => dd ((lane j).emb y)) y = _
      have hx : (fun y => upTo x (rateOf b x e dd) j.val ((lane j).emb y)) = fun y => x ((lane j).emb y) := funext fun y => upTo_lane _ _ _ _
      exact congrFun (congrArg (fun z : FVec F S16 .f32 => rateOf (s := S16) (fun y => b ((lane j).emb y)) z
        (fun y => e ((lane j).emb y)) (fun y => dd ((lane j).emb y))) hx) y
  isplitl [Hb]; · iexact Hb
  isplitl [He]; · iexact He
  iexact Hd

/-- The whole index phase. -/
theorem idxLoop_spec (p c : S512.Idx → BitVec 32) :
    (iprop(idxPts (F := F) d L p ∗ cellPts (F := F) d L c) : sProp 𝕄)
      ⊢ wpT d L (loop 32 (idxStep (F := F) L) 32 0 rfl) fun _ => iprop(idxPts (F := F) d L (flatOf p c) ∗ cellPts (F := F) d L c) := by
  have h := wp_loop d L 32 (idxStep (F := F) L) (fun k => iprop(idxPts (F := F) d L (upTo p (flatOf p c) k) ∗ cellPts (F := F) d L c))
    (idxStep_spec d L p c) 32 0 rfl
  simpa only [upTo_zero, upTo_full] using h

/-- The whole arithmetic phase. -/
theorem rateLoop_spec (b x e dd : S512.Idx → F .f32) :
    (iprop(xPts (F := F) d L x ∗ gotPts d L 0 b ∗ gotPts d L 1 e ∗ gotPts d L 2 dd) : sProp 𝕄)
      ⊢ wpT d L (loop 32 (rateStep (F := F) L) 32 0 rfl) fun _ =>
          iprop(xPts (F := F) d L (rateOf b x e dd) ∗ gotPts d L 0 b ∗ gotPts d L 1 e ∗ gotPts d L 2 dd) := by
  have h := wp_loop d L 32 (rateStep (F := F) L)
    (fun k => iprop(xPts (F := F) d L (upTo x (rateOf b x e dd) k) ∗ gotPts d L 0 b ∗ gotPts d L 1 e ∗ gotPts d L 2 dd))
    (rateStep_spec d L b x e dd) 32 0 rfl
  simpa only [upTo_zero, upTo_full] using h

end Cert.KernelIdeal.Tile

end
-- ==== Proof.Ideal.Gathered.lean ====
/-
  What a tile's twelve gathers take and what they bring.

  The three tables at the tile's share, the three destination buffers and the list of flat row numbers are cut into
  what the twelve gathers take (`gatherIn_all`, an equation); the rows that the finished batch hands back are the same
  cut of the same buffers, the destinations holding the tables' entries at the listed rows.
-/
module

public import proofs.«01_k».proof.Proof.Ideal.Gathers
public import proofs.«01_k».proof.Proof.Ideal.Steps

@[expose] public section

noncomputable section

namespace Cert.KernelIdeal.Tile

open Cert.KernelIdeal Cert.KernelIdeal.Gen Cert.GatherBatch
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

variable (d : Dev nD) (L : grid0.Coords)

/-! ## The four chunks of a tile's buffer -/

theorem mem_chunk (j : Fin 4) (i : S512.Idx) : i ∈ (chunk j).set ↔ 128 * j.val ≤ (i 0).val ∧ (i 0).val < 128 * j.val + 128 := by
  rw [Rect.mem_set_unit]
  exact ⟨fun h => h 0, fun h a => match a with | 0 => h⟩

theorem chunk_emb_val (j : Fin 4) (x : S128.Idx) : ((chunk j).emb x 0).val = 128 * j.val + (x 0).val := by
  show 128 * j.val + 1 * (x 0).val = _; omega

theorem chunks_disjoint (j j' : Fin 4) (h : j ≠ j') : Disjoint (chunk j).set (chunk j').set := by
  rw [Finset.disjoint_left]
  intro i hi hi'
  have h1 := (mem_chunk j i).mp hi
  have h2 := (mem_chunk j' i).mp hi'
  exact h (Fin.ext (by omega))

theorem chunks_cover : (Finset.univ : Finset (Fin 4)).biUnion (fun j => (chunk j).set) = Finset.univ := by
  ext i
  have hi : (i 0).val < 512 := (i 0).isLt
  simp only [Finset.mem_biUnion, Finset.mem_univ, true_and, iff_true]
  exact ⟨⟨(i 0).val / 128, by omega⟩, (mem_chunk _ i).mpr (by show 128 * ((i 0).val / 128) ≤ _ ∧ _ < 128 * ((i 0).val / 128) + 128; omega)⟩

/-- A buffer of 512 elements is its four chunks. -/
theorem pts_chunks {e : EltTy} (M : Memref sig .scVector .vmem S512 e) (q : PosShare TreeShare) (f : Buf (Elt F) (M.view.loc (thr d L))) :
    (M.view.loc (thr d L) ↦[M.view.set]{q} f : sProp 𝕄)
      = bigSep Finset.univ fun j : Fin 4 => M.view.loc (thr d L) ↦[(M.slice (chunk j) (fun _ => rfl)).view.set]{q} f := by
  have hj : ∀ j : Fin 4, (M.slice (chunk j) (fun _ => rfl)).view.set = (chunk j).set.map M.view.emb := fun j => View.set_slice M.view (chunk j)
  have hset : M.view.set = (Finset.univ : Finset (Fin 4)).biUnion fun j => (M.slice (chunk j) (fun _ => rfl)).view.set := by
    rw [Finset.biUnion_congr rfl fun j _ => (hj j).trans (Finset.map_eq_image _ _), ← Finset.biUnion_image, chunks_cover, ← Finset.map_eq_image]
    rfl
  rw [hset, pointsTo_biUnion]
  intro j _ j' _ h
  show Disjoint (M.slice (chunk j) (fun _ => rfl)).view.set (M.slice (chunk j') (fun _ => rfl)).view.set
  rw [hj j, hj j']
  exact (Finset.disjoint_map _).mpr (chunks_disjoint j j' h)

/-! ## The cut -/

section Cut

variable (q : PosShare TreeShare) (tab : (t : Fin 3) → Buf (Elt F) ((tabH t).view.loc (thr d L)))
  (fd : (t : Fin 3) → Buf (Elt F) ((gotS t).view.loc (thr d L))) (w : S512.Idx → BitVec 32)

/-- All of table `t`, as the gathers name it, at the tile's share. -/
abbrev tabPts (t : Fin 3) : sProp 𝕄 := (tabAll t).view.loc (thr d L) ↦[(tabAll t).view.set]{q} tab t
/-- All of destination `t`. -/
abbrev destPts (t : Fin 3) : sProp 𝕄 := (gotS t).view.loc (thr d L) ↦[(gotS t).view.set]{fullShare} fd t
/-- All of the list. -/
abbrev listPts : sProp 𝕄 := (idxS).view.loc (thr d L) ↦[(idxS).view.set]{fullShare} listBuf (F := F) d L w

/-- The tables, the destinations and the list, all of them, are what the twelve gathers take. -/
theorem gatherIn_all :
    (iprop((bigSep Finset.univ fun t => tabPts d L q tab t) ∗ (bigSep Finset.univ fun t => destPts d L fd t) ∗ listPts (F := F) d L w) : sProp 𝕄)
      = bigSep Finset.univ fun g => gatherIn d L q tab fd w g := by
  have ht : (bigSep Finset.univ fun t => tabPts d L q tab t : sProp 𝕄)
      = bigSep Finset.univ fun j : Fin 4 => bigSep Finset.univ fun t : Fin 3 =>
          ((tabAll t).view.loc (thr d L) ↦[(tabAll t).view.set]{pieceOf q 4 four_pos j} tab t) := by
    rw [Pipeline.bigSep_univ_comm]
    exact bigSep_congr fun t _ => pointsTo_piecesOf _ _ four_pos q
  have hd : (bigSep Finset.univ fun t => destPts d L fd t : sProp 𝕄)
      = bigSep Finset.univ fun j : Fin 4 => bigSep Finset.univ fun t : Fin 3 =>
          ((destOf t j).view.loc (thr d L) ↦[(destOf t j).view.set]{fullShare} fd t) := by
    rw [Pipeline.bigSep_univ_comm]
    exact bigSep_congr fun t _ => pts_chunks d L (gotS t) fullShare (fd t)
  have hl : (listPts (F := F) d L w : sProp 𝕄)
      = bigSep Finset.univ fun j : Fin 4 => bigSep Finset.univ fun t : Fin 3 =>
          ((listOf j).view.loc (thr d L) ↦[(listOf j).view.set]{pieceOf fullShare 3 three_pos t} listBuf (F := F) d L w) := by
    refine (pts_chunks d L idxS fullShare (listBuf (F := F) d L w)).trans ?_
    exact bigSep_congr fun j _ => pointsTo_piecesOf _ _ three_pos fullShare
  rw [ht, hd, hl, bigSep_univ_equiv (finProdFinEquiv (m := 4) (n := 3)), bigSep_univ_prod, ← bigSep_sep', ← bigSep_sep']
  refine bigSep_congr fun j _ => ?_
  rw [← bigSep_sep', ← bigSep_sep']
  refine bigSep_congr fun t _ => ?_
  have h : ((finProdFinEquiv (j, t)).divNat, (finProdFinEquiv (j, t)).modNat) = (j, t) := finProdFinEquiv.symm_apply_apply (j, t)
  have h1 : (finProdFinEquiv (j, t)).divNat = j := congrArg Prod.fst h
  have h2 : (finProdFinEquiv (j, t)).modNat = t := congrArg Prod.snd h
  unfold gatherIn
  rw [h1, h2]

end Cut

/-! ## What comes back -/

section Back

variable (q : PosShare TreeShare) (tab : (t : Fin 3) → Buf (Elt F) ((tabH t).view.loc (thr d L)))
  (fd : (t : Fin 3) → Buf (Elt F) ((gotS t).view.loc (thr d L))) (w : S512.Idx → BitVec 32) (hw : ∀ i, (w i).toNat < 3000000)

/-- The entry of a flat table at row `n`; a row number that is too large is brought into range, so that the entry is
    there for every number. -/
def entryOf {α : Type} (f : S3000000.Idx → α) (n : ℕ) : α := f (fun | 0 => ⟨n % 3000000, Nat.mod_lt _ (by decide)⟩)

/-- The entries of table `t` at the listed rows. -/
def gotVal (t : Fin 3) : S512.Idx → F .f32 := fun i => entryOf ((tabAll t).view.read (Elt F) (tab t)) (w i).toNat

/-- Values as the contents of destination `t`. -/
def asGot : (t : Fin 3) → (S512.Idx → F .f32) → Buf (Elt F) ((gotS t).view.loc (thr d L))
  | 0, v => v
  | 1, v => v
  | 2, v => v

theorem read_asGot (t : Fin 3) (v : S512.Idx → F .f32) (j : Fin 4) :
    (destOf t j).view.read (Elt F) (asGot d L t v) = fun x => v ((chunk j).emb x) := by
  match t with
  | 0 => rfl
  | 1 => rfl
  | 2 => rfl

/-- The rows of gather `(j, t)`, laid into chunk `j`, are the table's entries at the chunk's row numbers. -/
theorem payload_eq (g : Fin (4 * 3)) :
    gatherPayload gathers_S3000000_S128 ((tabAll g.modNat).view.read (Elt F) (tab g.modNat)) (gatherRows (F := F) d L w hw g)
      = fun x => gotVal d L tab w g.modNat ((chunk g.divNat).emb x) := by
  funext x
  unfold gatherPayload gotVal entryOf
  refine congrArg _ (funext fun a => ?_)
  match a with
  | 0 =>
    refine Fin.ext ?_
    have hx : S128.rowMajor.symm (((x 0 : Fin 128)).cast rfl) = x := by
      rw [Equiv.symm_apply_eq]
      exact Fin.ext (Shape.rowMajor_val_one (d := ![128]) x).symm
    have h1 : (gathers_S3000000_S128.idx (gatherRows (F := F) d L w hw g) x 0).val = (gatherRows (F := F) d L w hw g (x 0)).val :=
      congrArg Fin.val (Shape.Gathers.idx_axis gathers_S3000000_S128 _ x)
    refine h1.trans ?_
    have h2 : (gatherRows (F := F) d L w hw g (x 0)).val = (w ((chunk g.divNat).emb x)).toNat := by
      show (w ((chunk g.divNat).emb (S128.rowMajor.symm (((x 0 : Fin 128)).cast rfl)))).toNat = _
      rw [hx]
    rw [h2]
    exact (Nat.mod_eq_of_lt (hw _)).symm

/-- The destinations after the gathers. -/
abbrev gotBuf (t : Fin 3) : Buf (Elt F) ((gotS t).view.loc (thr d L)) := asGot d L t (gotVal d L tab w t)

/-- The rows of gather `g` are its pieces back, the destination filled. -/
theorem rowsBack (g : Fin (4 * 3)) :
    (bigSep Finset.univ fun i => rowBack d L q tab fd w hw g i : sProp 𝕄) ⊢ gatherIn d L q tab (gotBuf d L tab w) w g := by
  refine (gatherRows_join (thr d L) (tabAll g.modNat) (destOf g.modNat g.divNat) gathers_S3000000_S128 (listOf g.divNat) rfl rows_pos
    _ _ _ _ _ _).trans ?_
  iintro ⟨Hd, Hl, Ht⟩
  isplitl [Ht]; · iexact Ht
  isplitl [Hd]
  · iapply (Entails.of_eq (pointsTo_congr fun i hi => ?_)) $$ Hd
    obtain ⟨x, -, rfl⟩ := Finset.mem_map.mp hi
    refine (View.write_emb_of_mem _ _ (Finset.mem_univ x)).trans ?_
    rw [payload_eq d L tab w hw g, ← read_asGot d L g.modNat (gotVal d L tab w g.modNat) g.divNat, View.read_apply, cast_cast, cast_eq]
  iexact Hl

/-- The whole batch handed back: the tables, the destinations filled, and the list. -/
theorem batch_back :
    (bigSep Finset.univ (family d L q tab fd w hw) : sProp 𝕄)
      ⊢ iprop((bigSep Finset.univ fun t => tabPts d L q tab t) ∗ (bigSep Finset.univ fun t => destPts d L (gotBuf d L tab w) t) ∗ listPts (F := F) d L w) := by
  rw [gatherIn_all d L q tab (gotBuf d L tab w) w, bigSep_univ_equiv (finProdFinEquiv (m := 4 * 3) (n := 128)), bigSep_univ_prod]
  refine bigSep_mono fun g _ => BI.BIBase.Entails.trans (Entails.of_eq (bigSep_congr fun i _ => ?_)) (rowsBack d L q tab fd w hw g)
  have h : ((finProdFinEquiv (g, i)).divNat, (finProdFinEquiv (g, i)).modNat) = (g, i) := finProdFinEquiv.symm_apply_apply (g, i)
  have h1 : (finProdFinEquiv (g, i)).divNat = g := congrArg Prod.fst h
  have h2 : (finProdFinEquiv (g, i)).modNat = i := congrArg Prod.snd h
  unfold family
  rw [h1, h2]

include hw in
/-- Gathers and waits together: from the tables, any destinations, the list and the semaphore at zero, the same with the
    destinations filled and the semaphore at zero again. -/
theorem gather_spec (O : CellTallies nD τ sig (SparseCore.Cfg.HIx 1)) (W : Waits sig (SparseCore.Cfg.HIx 1)) {A : Type} (k : TProg F L A) (R : A → sProp 𝕄) :
    (iprop(((bigSep Finset.univ fun t => tabPts d L q tab t) ∗ (bigSep Finset.univ fun t => destPts d L fd t) ∗ listPts (F := F) d L w)
        ∗ semVal (thr d L, .dma cc0_scratch6.sem) 0 ∗ owes (thr d L) O W ∗ Transfers.MayWaits (thr d L) (default : SparseCore.Cfg.HIx 1) O) : sProp 𝕄)
      ⊢ iprop((∀ W', ⌜∀ p ∈ W', p ∈ W ∨ p.2 = none⌝
            -∗ iprop((bigSep Finset.univ fun t => tabPts d L q tab t) ∗ (bigSep Finset.univ fun t => destPts d L (gotBuf d L tab w) t) ∗ listPts (F := F) d L w)
            -∗ semVal (thr d L, .dma cc0_scratch6.sem) 0 -∗ owes (thr d L) O W' -∗ wpT d L k R)
          -∗ wpT d L (loop (4 * 3) (gatherStep (F := F) L) 12 0 rfl >>= fun _ => loop (4 * 3) (waitStep (F := F) L) 12 0 rfl >>= fun _ => k) R) := by
  rw [gatherIn_all]
  iintro ⟨Hin, Hs, HO, Hmw⟩ Hk
  imod (Transfers.batch_alloc' countersEmb (thr d L) (default : SparseCore.Cfg.HIx 1) rowUnits (family d L q tab fd w hw)) $$ Hs with HB
  iapply (wpT_seq d L (gatherLoop_spec d L q tab fd w hw)) $$ [Hin HB]
  · isplitl [Hin]; · iexact Hin
    iexact HB
  iintro %_ HB
  iapply (wpT_seq d L (waitLoop_spec d L q tab fd w hw O W)) $$ [HB HO Hmw]
  · isplitl [HB]; · iexact HB
    isplitl [HO]; · iexact HO
    iexact Hmw
  iintro %_ ⟨HB, %W', %hW', HO⟩
  imod (Transfers.batch_collect' countersEmb (thr d L) (show 0 < rowUnits by decide)) $$ HB with ⟨HD, Hs⟩
  ihave HD' := (batch_back d L q tab fd w hw) $$ HD
  ispecialize Hk $$ %W'
  iapply Hk $$ [] HD' Hs HO
  ipureintro; exact hW'

end Back

end Cert.KernelIdeal.Tile

end
-- ==== Proof.Ideal.Tile.lean ====
/-
  One tile, from its resources to its result.

  The tile gets its 512 elements of `x`, `drug_id`, `cell_id` and of the result, a share of each flat table, its own
  scratch buffers and semaphores; it hands everything back, its part of the result holding the closed form `rates` of
  the arguments.
-/
module

public import proofs.«01_k».proof.Proof.Ideal.Gathered

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

variable (d : Dev nD) (L : grid0.Coords)

/-! ## A tile's own semaphores and buffers -/

/-- The five semaphores a tile uses. -/
def semAt : Fin 5 → DmaSem sig
  | 0 => cc0_scoped0.sem | 1 => cc0_scoped1.sem | 2 => cc0_scoped2.sem | 3 => cc0_scoped3.sem | 4 => cc0_scratch6.sem

/-- The six scratch buffers a tile uses. -/
def bufAt : Fin 6 → Ref sig .scVector
  | 0 => cc0_scratch0 | 1 => cc0_scratch1 | 2 => cc0_scratch2 | 3 => cc0_scratch3 | 4 => cc0_scratch4 | 5 => cc0_scratch5

theorem semAt_injective : Function.Injective semAt := by decide
theorem bufAt_injective : Function.Injective bufAt := by decide
theorem semAt_scoped : ∀ k, (SemLoc.dma (semAt k) : SemLoc sig).isScoped .scVector = true := by decide

/-- The cell of semaphore `k` on the tile. -/
def cellAt (k : Fin 5) : GSem nD τ sig := (thr d L, .dma (semAt k))
/-- The place of buffer `k` on the tile. -/
def refAt (k : Fin 6) : DevRef τ sig := (Proc.scVector (cV L) (jV L)).devRef (bufAt k)

theorem cellAt_injective : Function.Injective (cellAt d L) := fun a b h =>
  semAt_injective (SemLoc.dma.inj (congrArg Prod.snd h))
theorem refAt_injective : Function.Injective (refAt L) := fun _ _ h => bufAt_injective (Proc.devRef_injective _ h)

/-- A family over a set that holds the values of `f` is the family at them and the rest. -/
theorem bigSep_carve {I J : Type} [DecidableEq I] [Fintype J] (f : J → I) (hf : Function.Injective f) (S : Finset I) (h : ∀ j, f j ∈ S) (Φ : I → sProp 𝕄) :
    bigSep S Φ = iprop((bigSep Finset.univ fun j => Φ (f j)) ∗ bigSep (S \ Finset.univ.map ⟨f, hf⟩) Φ) := by
  have hS : S = Finset.univ.map ⟨f, hf⟩ ∪ (S \ Finset.univ.map ⟨f, hf⟩) :=
    (Finset.union_sdiff_of_subset (fun x hx => by obtain ⟨j, -, rfl⟩ := Finset.mem_map.mp hx; exact h j)).symm
  conv_lhs => rw [hS]
  rw [bigSep_union Finset.disjoint_sdiff, bigSep_map]
  rfl

/-- The semaphores of a tile: the five it uses, at zero, and the rest. -/
theorem ownSems0_tile :
    (ownSems0 (thr d L) : sProp 𝕄)
      = iprop((semVal (thr d L, .dma cc0_scoped0.sem) 0 ∗ semVal (thr d L, .dma cc0_scoped1.sem) 0 ∗ semVal (thr d L, .dma cc0_scoped2.sem) 0
            ∗ semVal (thr d L, .dma cc0_scoped3.sem) 0 ∗ semVal (thr d L, .dma cc0_scratch6.sem) 0)
          ∗ bigSep (ownCells (thr d L) \ Finset.univ.map ⟨cellAt d L, cellAt_injective d L⟩) fun g => semVal g 0) := by
  unfold ownSems0
  rw [bigSep_carve (cellAt d L) (cellAt_injective d L) (ownCells (thr d L)) (fun k => mem_ownCells.mpr ⟨rfl, semAt_scoped k⟩),
    show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

/-- The buffers of a tile: the six it uses, at some contents, and the rest. -/
theorem ownBufs_tile :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
            ∗ (∃ f, (thr d L).loc cc0_scratch3 ↦{fullShare} f) ∗ (∃ f, (thr d L).loc cc0_scratch4 ↦{fullShare} f) ∗ (∃ f, (thr d L).loc cc0_scratch5 ↦{fullShare} f))
          ∗ bigSep (ownRefs (τ := τ) (.scVector (cV L) (jV L)) \ Finset.univ.map ⟨refAt L, refAt_injective L⟩)
              fun b => iprop(∃ f, ((d, b) : Loc nD τ sig) ↦{fullShare} f)) := by
  unfold ownBufs
  have hmem : ∀ k, refAt L k ∈ ownRefs (τ := τ) (sig := sig) (.scVector (cV L) (jV L)) := fun k =>
    SparseCore.Cfg.mem_ownRefs_of_owner (p := Proc.scVector (cV L) (jV L)) (by
      match k with
      | 0 => rfl | 1 => rfl | 2 => rfl | 3 => rfl | 4 => rfl | 5 => rfl)
  refine (bigSep_carve (refAt L) (refAt_injective L) (ownRefs (τ := τ) (.scVector (cV L) (jV L))) hmem _).trans ?_
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

/-! ## The result in closed form -/

section Value

variable (X : S16384.Idx → F .f32) (DR CE : S16384.Idx → BitVec 32) (tab : Fin 3 → S3000000.Idx → F .f32)

/-- The entries of table `t` at the flat row numbers of all 16384 pairs. -/
def entries (t : Fin 3) : S16384.Idx → F .f32 := fun i => entryOf (tab t) (flatOf (s := S16384) DR CE i).toNat

/-- The result: at every pair, from the three entries and `x`. -/
def rates : S16384.Idx → F .f32 := rateOf (s := S16384) (entries DR CE tab 0) X (entries DR CE tab 1) (entries DR CE tab 2)

end Value

/-! ## The body -/

section Body

variable (X : S16384.Idx → F .f32) (DR CE : S16384.Idx → BitVec 32) (tab : Fin 3 → S3000000.Idx → F .f32) (q : PosShare TreeShare)

/-- The tile's part of `x`, of `drug_id`, of `cell_id` and of the result. -/
abbrev xBlk : sProp 𝕄 := (xH.slice (blk L) (fun _ => rfl)).view.loc (thr d L) ↦[(xH.slice (blk L) (fun _ => rfl)).view.set]{fullShare} (X : Buf (Elt F) ((xH.slice (blk L) (fun _ => rfl)).view.loc (thr d L)))
abbrev drugBlk : sProp 𝕄 := (drugH.slice (blk L) (fun _ => rfl)).view.loc (thr d L) ↦[(drugH.slice (blk L) (fun _ => rfl)).view.set]{fullShare} (DR : Buf (Elt F) ((drugH.slice (blk L) (fun _ => rfl)).view.loc (thr d L)))
abbrev cellBlk : sProp 𝕄 := (cellH.slice (blk L) (fun _ => rfl)).view.loc (thr d L) ↦[(cellH.slice (blk L) (fun _ => rfl)).view.set]{fullShare} (CE : Buf (Elt F) ((cellH.slice (blk L) (fun _ => rfl)).view.loc (thr d L)))
abbrev outBlk : sProp 𝕄 := (outH.slice (blk L) (fun _ => rfl)).view.loc (thr d L) ↦[(outH.slice (blk L) (fun _ => rfl)).view.set]{fullShare} (X : Buf (Elt F) ((outH.slice (blk L) (fun _ => rfl)).view.loc (thr d L)))

/-- Flat tables as the contents of their buffers. -/
def asTab : (t : Fin 3) → Buf (Elt F) ((tabH t).view.loc (thr d L))
  | 0 => tab 0
  | 1 => tab 1
  | 2 => tab 2

theorem read_asTab (t : Fin 3) : (tabAll t).view.read (Elt F) (asTab d L tab t) = tab t := by
  have h : ∀ x : S3000000.Idx, (Rect.unit (s := S3000000) ![0] S3000000.size inb_S3000000_S3000000_0).emb x = x := fun x => by
    funext a; refine Fin.ext ?_
    match a with
    | 0 => show 0 + 1 * (x 0).val = _; omega
  match t with
  | 0 => exact funext fun x => congrArg (tab 0) (h x)
  | 1 => exact funext fun x => congrArg (tab 1) (h x)
  | 2 => exact funext fun x => congrArg (tab 2) (h x)

/-- The three tables at the tile's share. -/
abbrev tabsPts : sProp 𝕄 := bigSep Finset.univ fun t => tabPts d L q (asTab d L tab) t

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- A buffer of the tile, all of it, is the elements its whole memref names. -/
theorem pts_whole {e : EltTy} {s : Shape} (M : Memref sig .scVector .vmem s e) (h : M.view.set = Finset.univ) (f : Buf (Elt F) (M.view.loc (thr d L))) :
    (M.view.loc (thr d L) ↦[M.view.set]{fullShare} f : sProp 𝕄) = M.view.loc (thr d L) ↦{fullShare} f := by rw [h]

theorem destPts_eq (v : Fin 3 → S512.Idx → F .f32) (t : Fin 3) : (destPts d L (fun t => asGot d L t (v t)) t : sProp 𝕄) = gotPts d L t (v t) := by
  match t with
  | 0 => exact pts_whole d L (gotS 0) (View.set_whole _) _
  | 1 => exact pts_whole d L (gotS 1) (View.set_whole _) _
  | 2 => exact pts_whole d L (gotS 2) (View.set_whole _) _

theorem listPts_eq (w : S512.Idx → BitVec 32) : (listPts (F := F) d L w : sProp 𝕄) = idxPts (F := F) d L w :=
  pts_whole d L idxS (View.set_whole _) _

/-- Separating conjunction regroups. -/
theorem sep_regroup (P Q R : sProp 𝕄) : iprop((P ∗ Q) ∗ R) = iprop(P ∗ Q ∗ R) := by
  refine equiv_iff.mp ⟨?_, ?_⟩
  · show BI.BIBase.Entails iprop((P ∗ Q) ∗ R) iprop(P ∗ Q ∗ R)
    iintro ⟨⟨H1, H2⟩, H3⟩
    isplitl [H1]; · iexact H1
    isplitl [H2]; · iexact H2
    iexact H3
  · show BI.BIBase.Entails iprop(P ∗ Q ∗ R) iprop((P ∗ Q) ∗ R)
    iintro ⟨H1, H2, H3⟩
    isplitr [H3]
    · isplitl [H1]; · iexact H1
      iexact H2
    · iexact H3

/-- The three destinations and the list, as the gathers take them, from the buffers' contents. -/
theorem gathers_take (b e dd : S512.Idx → F .f32) (w : S512.Idx → BitVec 32) :
    (iprop(tabsPts d L tab q ∗ gotPts d L 0 b ∗ gotPts d L 1 e ∗ gotPts d L 2 dd ∗ idxPts (F := F) d L w) : sProp 𝕄)
      = iprop((bigSep Finset.univ fun t => tabPts d L q (asTab d L tab) t)
          ∗ (bigSep Finset.univ fun t => destPts d L (fun t => asGot d L t ((fun | 0 => b | 1 => e | 2 => dd : Fin 3 → S512.Idx → F .f32) t)) t) ∗ listPts (F := F) d L w) := by
  rw [bigSep_congr fun t _ => destPts_eq d L (fun | 0 => b | 1 => e | 2 => dd) t, bigSep_three (fun t => gotPts d L t _), listPts_eq]
  exact congrArg (BI.sep _) ((sep_regroup _ _ _).trans (congrArg (BI.sep _) (sep_regroup _ _ _))).symm

theorem flat_lt (hD : ∀ i, (DR i).toNat < 2000) (hC : ∀ i, (CE i).toNat < 1500) (i : S16384.Idx) :
    (flatOf (s := S16384) DR CE i).toNat = (DR i).toNat * 1500 + (CE i).toNat ∧ (flatOf (s := S16384) DR CE i).toNat < 3000000 := by
  have h1 := hD i
  have h2 := hC i
  have h : (flatOf (s := S16384) DR CE i).toNat = (DR i).toNat * 1500 + (CE i).toNat := by
    show (DR i * 1500#32 + CE i).toNat = _
    rw [BitVec.toNat_add, BitVec.toNat_mul]
    show ((DR i).toNat * 1500 % 2 ^ 32 + (CE i).toNat) % 2 ^ 32 = _
    omega
  exact ⟨h, by omega⟩

/-- The tile's blocks read out of the arguments. -/
abbrev part {α : Type} (f : S16384.Idx → α) : S512.Idx → α := fun x => f ((blk L).emb x)

set_option maxHeartbeats 1000000 in
theorem copyIn_spec (f0 : S512.Idx → F .f32) (f1 f2 : S512.Idx → BitVec 32) (O : CellTallies nD τ sig (SparseCore.Cfg.HIx 1)) (W : Waits sig (SparseCore.Cfg.HIx 1)) :
    (iprop(xBlk d L X ∗ drugBlk (F := F) d L DR ∗ cellBlk (F := F) d L CE ∗ xPts d L f0 ∗ idxPts (F := F) d L f1 ∗ cellPts (F := F) d L f2
        ∗ semVal (thr d L, .dma cc0_scoped0.sem) 0 ∗ semVal (thr d L, .dma cc0_scoped1.sem) 0 ∗ semVal (thr d L, .dma cc0_scoped2.sem) 0
        ∗ owes (thr d L) O W ∗ Transfers.MayWaits (thr d L) (default : SparseCore.Cfg.HIx 1) O) : sProp 𝕄)
      ⊢ wpT d L (copyIn (F := F) L) fun _ =>
          iprop(xBlk d L X ∗ drugBlk (F := F) d L DR ∗ cellBlk (F := F) d L CE ∗ xPts d L (part L X) ∗ idxPts (F := F) d L (part L DR) ∗ cellPts (F := F) d L (part L CE)
        ∗ semVal (thr d L, .dma cc0_scoped0.sem) 0 ∗ semVal (thr d L, .dma cc0_scoped1.sem) 0 ∗ semVal (thr d L, .dma cc0_scoped2.sem) 0
        ∗ ∃ W', ⌜∀ p ∈ W', p ∈ W ∨ p.2 = none⌝ ∗ owes (thr d L) O W') := by
  unfold wpT copyIn
  iintro ⟨Hx, Hd, Hc, H0, H1, H2, HsA, HsB, HsC, HO, #Hmw⟩
  sl_exec
  sl_step
  isplitl [Hx]; · iexact Hx
  isplitl [Hd]; · iexact Hd
  isplitl [Hc]; · iexact Hc
  isplitl [H0]
  · iapply (Entails.of_eq (congrArg (xPts (F := F) d L) (View.write_whole_univ (Val := Elt F) cc0_scratch0 _ _))) $$ H0
  isplitl [H1]
  · iapply (Entails.of_eq (congrArg (idxPts (F := F) d L) (View.write_whole_univ (Val := Elt F) cc0_scratch1 _ _))) $$ H1
  isplitl [H2]
  · iapply (Entails.of_eq (congrArg (cellPts (F := F) d L) (View.write_whole_univ (Val := Elt F) cc0_scratch2 _ _))) $$ H2
  isplitl [HsA]; · iexact HsA
  isplitl [HsB]; · iexact HsB
  isplitl [HsC]; · iexact HsC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The tile's part of the result, written from the tile's buffer. -/
theorem outBlk_written (old : S16384.Idx → F .f32) (v : S512.Idx → F .f32) (hv : v = part L X) :
    ((outH.slice (blk L) (fun _ => rfl)).view.loc (thr d L) ↦[(outH.slice (blk L) (fun _ => rfl)).view.set]{fullShare}
        ((outH.slice (blk L) (fun _ => rfl)).view.writes (Elt F) (old : Buf (Elt F) ((outH.slice (blk L) (fun _ => rfl)).view.loc (thr d L)))
          [⟨Rect.whole (blk L).shape, v⟩]) : sProp 𝕄)
      = outBlk d L X := by
  subst hv
  refine pointsTo_congr fun i hi => ?_
  obtain ⟨x, -, rfl⟩ := Finset.mem_map.mp hi
  have hx : (outH.slice (blk L) (fun _ => rfl)).view.emb x = ((outH.slice (blk L) (fun _ => rfl)).view.slice (Rect.whole (blk L).shape)).emb x :=
    congrArg (outH.slice (blk L) (fun _ => rfl)).view.emb (funext fun a => Fin.ext (by show (x a).val = 0 + 1 * (x a).val; omega))
  rw [View.writes_singleton, hx, View.write_emb_of_mem _ _ (Finset.mem_univ x), ← hx]
  rfl

set_option maxHeartbeats 1000000 in
theorem copyOut_spec (old : S16384.Idx → F .f32) (v : S512.Idx → F .f32) (O : CellTallies nD τ sig (SparseCore.Cfg.HIx 1)) (W : Waits sig (SparseCore.Cfg.HIx 1))
    (hv : v = part L X) :
    (iprop(outBlk d L old ∗ xPts d L v ∗ semVal (thr d L, .dma cc0_scoped3.sem) 0
        ∗ owes (thr d L) O W ∗ Transfers.MayWaits (thr d L) (default : SparseCore.Cfg.HIx 1) O) : sProp 𝕄)
      ⊢ wpT d L (copyOut (F := F) L) fun _ =>
          iprop(outBlk d L X ∗ xPts d L v ∗ semVal (thr d L, .dma cc0_scoped3.sem) 0 ∗ ∃ W', ⌜∀ p ∈ W', p ∈ W ∨ p.2 = none⌝ ∗ owes (thr d L) O W') := by
  unfold wpT copyOut
  iintro ⟨Ho, H0, HsD, HO, #Hmw⟩
  sl_exec
  sl_step
  isplitl [Ho]
  · iapply (Entails.of_eq (outBlk_written d L X old _ ?_)) $$ Ho
    exact hv
  isplitl [H0]; · iexact H0
  isplitl [HsD]; · iexact HsD
  iexists _; isplitr
  swap; · iexact HO
  ipureintro; intro p hp
  rcases Finset.mem_insert.mp hp with hp | hp; · exact .inr (hp ▸ rfl)
  exact .inl hp

/-- What the gathers bring at the tile's row numbers is the tile's part of what they would bring at all of them. -/
theorem gotVal_part (t : Fin 3) :
    gotVal d L (asTab d L tab) (flatOf (s := S512) (part L DR) (part L CE)) t = part L (entries DR CE tab t) := by
  funext x
  unfold gotVal
  rw [read_asTab]
  rfl

/-- The three destinations and the list, as the gathers leave them, as the buffers' contents. -/
theorem gathers_give :
    (iprop((bigSep Finset.univ fun t => tabPts d L q (asTab d L tab) t)
        ∗ (bigSep Finset.univ fun t => destPts d L (gotBuf d L (asTab d L tab) (flatOf (s := S512) (part L DR) (part L CE))) t)
        ∗ listPts (F := F) d L (flatOf (s := S512) (part L DR) (part L CE))) : sProp 𝕄)
      = iprop(tabsPts d L tab q ∗ gotPts d L 0 (part L (entries DR CE tab 0)) ∗ gotPts d L 1 (part L (entries DR CE tab 1))
          ∗ gotPts d L 2 (part L (entries DR CE tab 2)) ∗ idxPts (F := F) d L (flatOf (s := S512) (part L DR) (part L CE))) := by
  have h : ∀ t, (destPts d L (gotBuf d L (asTab d L tab) (flatOf (s := S512) (part L DR) (part L CE))) t : sProp 𝕄) = gotPts d L t (part L (entries DR CE tab t)) :=
    fun t => (destPts_eq d L (gotVal d L (asTab d L tab) (flatOf (s := S512) (part L DR) (part L CE))) t).trans (congrArg (gotPts d L t) (gotVal_part d L DR CE tab t))
  rw [bigSep_congr fun t _ => h t, bigSep_three (fun t => gotPts d L t _), listPts_eq]
  exact congrArg (BI.sep _) ((sep_regroup _ _ _).trans (congrArg (BI.sep _) (sep_regroup _ _ _)))

/-- The tile's results are its part of all results. -/
theorem rate_part :
    rateOf (s := S512) (part L (entries DR CE tab 0)) (part L X) (part L (entries DR CE tab 1)) (part L (entries DR CE tab 2)) = part L (rates X DR CE tab) := rfl

/-- The tile's task: from its parts of the arguments and of the result, its shares of the tables, its buffers and its
    semaphores, with the numbers in range, to the same with its part of the result holding `rates`. -/
theorem tile_body (hD : ∀ i, (DR i).toNat < 2000) (hC : ∀ i, (CE i).toNat < 1500) (old : S16384.Idx → F .f32)
    (O : CellTallies nD τ sig (SparseCore.Cfg.HIx 1)) (W : Waits sig (SparseCore.Cfg.HIx 1)) (hO : ∀ g, O g none = 0) :
    iprop(levAts (K (F := F)).L (K (F := F)).lev ∗ emp
        ∗ (xBlk d L X ∗ drugBlk (F := F) d L DR ∗ cellBlk (F := F) d L CE ∗ tabsPts d L tab q ∗ outBlk d L old)
        ∗ scopedBufs (thr d L) ∗ scopedSems0 (thr d L) ∗ owes (thr d L) O W)
      ⊢ wpT d L (tileProg (F := F) L)
          fun _ => iprop((xBlk d L X ∗ drugBlk (F := F) d L DR ∗ cellBlk (F := F) d L CE ∗ tabsPts d L tab q ∗ outBlk d L (rates X DR CE tab))
            ∗ scopedBufs (thr d L) ∗ scopedSems0 (thr d L)
            ∗ ∃ W', ⌜∀ p ∈ W', p ∈ W ∨ p.2 = none⌝ ∗ owes (thr d L) O W') := by
  have hw : ∀ i : S512.Idx, (flatOf (s := S512) (part L DR) (part L CE) i).toNat < 3000000 := fun i => (flat_lt DR CE hD hC ((blk L).emb i)).2
  rw [(K (F := F)).scopedBufs_V facts d (cV L) (jV L), SparseCore.Cfg.scopedSems0_V (Val := Elt F) d (cV L) (jV L), ownSems0_tile, ownBufs_tile]
  unfold tileProg
  iintro ⟨#Hlv, -, ⟨Hx, Hdr, Hce, Htab, Hout⟩, ⟨⟨⟨%f0, H0⟩, ⟨%f1, H1⟩, ⟨%f2, H2⟩, ⟨%f3, H3⟩, ⟨%f4, H4⟩, ⟨%f5, H5⟩⟩, Hbufs⟩, ⟨⟨HsA, HsB, HsC, HsD, HsG⟩, Hsems⟩, HO⟩
  ihave #Hmw := (show levAts (K (F := F)).L (K (F := F)).lev ⊢ Transfers.MayWaits (thr d L) (default : SparseCore.Cfg.HIx 1) O from
    (K (F := F)).mayWaits_none (thr := thr d L) hO) $$ Hlv
  iapply (wpT_seq d L (copyIn_spec d L X DR CE f0 f1 f2 O W)) $$ [Hx Hdr Hce H0 H1 H2 HsA HsB HsC HO]
  · isplitl [Hx]; · iexact Hx
    isplitl [Hdr]; · iexact Hdr
    isplitl [Hce]; · iexact Hce
    isplitl [H0]; · iexact H0
    isplitl [H1]; · iexact H1
    isplitl [H2]; · iexact H2
    isplitl [HsA]; · iexact HsA
    isplitl [HsB]; · iexact HsB
    isplitl [HsC]; · iexact HsC
    isplitl [HO]; · iexact HO
    iexact Hmw
  iintro %_ ⟨Hx, Hdr, Hce, H0, H1, H2, HsA, HsB, HsC, %W1, %hW1, HO⟩
  iapply (wpT_seq d L (idxLoop_spec d L (part L DR) (part L CE))) $$ [H1 H2]
  · isplitl [H1]; · iexact H1
    iexact H2
  iintro %_ ⟨H1, H2⟩
  ihave Hin := (Entails.of_eq (gathers_take d L tab q f3 f4 f5 (flatOf (s := S512) (part L DR) (part L CE)))) $$ [Htab H3 H4 H5 H1]
  · isplitl [Htab]; · iexact Htab
    isplitl [H3]; · iexact H3
    isplitl [H4]; · iexact H4
    isplitl [H5]; · iexact H5
    iexact H1
  iapply (gather_spec d L q (asTab d L tab) _ (flatOf (s := S512) (part L DR) (part L CE)) hw O W1 _ _) $$ [Hin HsG HO]
  · isplitl [Hin]; · iexact Hin
    isplitl [HsG]; · iexact HsG
    isplitl [HO]; · iexact HO
    iexact Hmw
  iintro %W2 %hW2 Hback HsG HO
  ihave Hback' := (Entails.of_eq (gathers_give d L DR CE tab q)) $$ Hback
  icases Hback' with ⟨Htab, H3, H4, H5, H1⟩
  iapply (wpT_seq d L (rateLoop_spec d L (part L (entries DR CE tab 0)) (part L X) (part L (entries DR CE tab 1)) (part L (entries DR CE tab 2)))) $$ [H0 H3 H4 H5]
  · isplitl [H0]; · iexact H0
    isplitl [H3]; · iexact H3
    isplitl [H4]; · iexact H4
    iexact H5
  iintro %_ ⟨H0, H3, H4, H5⟩
  iapply (wpT_seq d L (copyOut_spec d L (rates X DR CE tab) old
      (rateOf (s := S512) (part L (entries DR CE tab 0)) (part L X) (part L (entries DR CE tab 1)) (part L (entries DR CE tab 2))) O W2 (rate_part L X DR CE tab))) $$ [Hout H0 HsD HO]
  · isplitl [Hout]; · iexact Hout
    isplitl [H0]; · iexact H0
    isplitl [HsD]; · iexact HsD
    isplitl [HO]; · iexact HO
    iexact Hmw
  iintro %_ ⟨Hout, H0, HsD, %W3, %hW3, HO⟩
  unfold wpT
  rw [wp_pure]
  imodintro
  isplitl [Hx Hdr Hce Htab Hout]
  · isplitl [Hx]; · iexact Hx
    isplitl [Hdr]; · iexact Hdr
    isplitl [Hce]; · iexact Hce
    isplitl [Htab]; · iexact Htab
    iexact Hout
  isplitl [H0 H1 H2 H3 H4 H5 Hbufs]
  · isplitr [Hbufs]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    · iexact Hbufs
  isplitl [HsA HsB HsC HsD HsG Hsems]
  · isplitr [Hsems]
    · isplitl [HsA]; · iexact HsA
      isplitl [HsB]; · iexact HsB
      isplitl [HsC]; · iexact HsC
      isplitl [HsD]; · iexact HsD
      iexact HsG
    · iexact Hsems
  iexists W3
  isplitr
  · ipureintro
    intro p hp
    rcases hW3 p hp with hp | hp
    · rcases hW2 p hp with hp | hp
      · exact hW1 p hp
      · exact .inr hp
    · exact .inr hp
  iexact HO

end Body

end Cert.KernelIdeal.Tile

end
-- ==== Proof.Ideal.Split.lean ====
/-
  The arrays as the 32 tiles' parts of them.

  Tile `(c, i)` works on elements `[1024 i + 512 c, 1024 i + 512 c + 512)` of the long arrays: the 32 blocks are
  disjoint and are everything. Of each flat table a tile gets one of 32 shares.
-/
module

public import proofs.«01_k».proof.Proof.Ideal.Tile

@[expose] public section

noncomputable section

namespace Cert.KernelIdeal.Tile

open Cert.KernelIdeal Cert.KernelIdeal.Gen
open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

/-- The grid coordinates of tile `i` of SparseCore `c`. -/
def tileAt (c : Fin (grid0.bound 0)) (i : Fin (grid0.bound 1)) : grid0.Coords :=
  fun | 0 => c | 1 => i | ⟨_ + 2, h⟩ => absurd h (Nat.not_lt.2 (Nat.le_add_left _ _))

/-- A tile, by its SparseCore and its place there. -/
abbrev Tiles : Type := Fin 2 × Fin 16

/-- The grid coordinates of a tile. -/
abbrev coordsOf (p : Tiles) : grid0.Coords := tileAt p.1 p.2

/-! ## The blocks -/

/-- Where a tile's block begins. -/
theorem blk_off (p : Tiles) : (blk (coordsOf p)).off 0 = 1024 * p.2.val + 512 * p.1.val := by
  have h1 := p.1.isLt
  have h2 := p.2.isLt
  show ((BitVec.ofNat 32 p.2.val * 2#32 + BitVec.ofNat 32 p.1.val) * 512#32).toNat = _
  simp only [BitVec.toNat_mul, BitVec.toNat_add, BitVec.toNat_ofNat]
  omega

/-- The elements of a tile's block. -/
abbrev blkSet (p : Tiles) : Finset S16384.Idx := (blk (coordsOf p)).set

theorem mem_blkSet (p : Tiles) (j : S16384.Idx) :
    j ∈ blkSet p ↔ 1024 * p.2.val + 512 * p.1.val ≤ (j 0).val ∧ (j 0).val < 1024 * p.2.val + 512 * p.1.val + 512 := by
  have ho : k0_off1 (coordsOf p) 0 = 1024 * p.2.val + 512 * p.1.val := blk_off p
  rw [Rect.mem_set_unit]
  constructor
  · intro h
    have h0 := h 0
    rw [ho] at h0
    exact h0
  · intro h a
    match a with
    | 0 => rw [show (k0_off1 (coordsOf p) 0) = _ from ho]; exact h

theorem blkSet_disjoint : ∀ p ∈ (Finset.univ : Finset Tiles), ∀ p' ∈ (Finset.univ : Finset Tiles), p ≠ p' → Disjoint (blkSet p) (blkSet p') := by
  intro p _ p' _ hne
  refine Finset.disjoint_left.mpr fun j hj hj' => hne ?_
  rw [mem_blkSet] at hj hj'
  have h1 := p.1.isLt
  have h2 := p'.1.isLt
  exact Prod.ext (Fin.ext (by omega)) (Fin.ext (by omega))

theorem blkSet_cover : (Finset.univ : Finset Tiles).biUnion blkSet = Finset.univ := by
  refine Finset.eq_univ_iff_forall.mpr fun j => Finset.mem_biUnion.mpr ?_
  have hj : (j 0).val < 16384 := (j 0).isLt
  refine ⟨(⟨(j 0).val % 1024 / 512, by omega⟩, ⟨(j 0).val / 1024, by omega⟩), Finset.mem_univ _, (mem_blkSet _ j).mpr ?_⟩
  show 1024 * ((j 0).val / 1024) + 512 * ((j 0).val % 1024 / 512) ≤ (j 0).val ∧ (j 0).val < 1024 * ((j 0).val / 1024) + 512 * ((j 0).val % 1024 / 512) + 512
  omega

/-! ## The arrays -/

variable (d : Dev nD)

/-- The program's arrays on a device. -/
abbrev xLoc : Loc nD τ sig := (SparseCore.T d).loc main_arg0
abbrev drugLoc : Loc nD τ sig := (SparseCore.T d).loc main_arg1
abbrev cellLoc : Loc nD τ sig := (SparseCore.T d).loc main_arg2
abbrev flat0Loc : Loc nD τ sig := (SparseCore.T d).loc main_v0
abbrev flat1Loc : Loc nD τ sig := (SparseCore.T d).loc main_v1
abbrev flat2Loc : Loc nD τ sig := (SparseCore.T d).loc main_v2
abbrev outLoc : Loc nD τ sig := (SparseCore.T d).loc main_v3

/-- The share of each flat table that a tile gets. -/
def tileShare (p : Tiles) : PosShare TreeShare := pieceOf fullShare 32 (by decide) (finProdFinEquiv p)

theorem set_slice_of_whole (b : Ref sig .scVector) (r : Rect b.ty.shape) : ((View.whole b).slice r).set = r.set := View.set_slice_whole b r

variable (X : S16384.Idx → F .f32) (DR CE : S16384.Idx → BitVec 32) (tab : Fin 3 → S3000000.Idx → F .f32)

theorem x_blocks : (xLoc d ↦{fullShare} (X : Buf (Elt F) (xLoc d)) : sProp 𝕄) = bigSep Finset.univ fun p : Tiles => xBlk d (coordsOf p) X := by
  have h : ∀ p : Tiles, (xBlk d (coordsOf p) X : sProp 𝕄) = (xLoc d ↦[blkSet p]{fullShare} (X : Buf (Elt F) (xLoc d))) := fun p => by
    unfold xBlk
    rw [show (xH.slice (blk (coordsOf p)) (fun _ => rfl)).view.set = blkSet p from set_slice_of_whole main_arg0_scv _]
  rw [bigSep_congr fun p _ => h p, ← pointsTo_biUnion Finset.univ (ℓ := xLoc d) blkSet blkSet_disjoint, blkSet_cover]

theorem drug_blocks : (drugLoc d ↦{fullShare} (DR : Buf (Elt F) (drugLoc d)) : sProp 𝕄) = bigSep Finset.univ fun p : Tiles => drugBlk (F := F) d (coordsOf p) DR := by
  have h : ∀ p : Tiles, (drugBlk (F := F) d (coordsOf p) DR : sProp 𝕄) = (drugLoc d ↦[blkSet p]{fullShare} (DR : Buf (Elt F) (drugLoc d))) := fun p => by
    unfold drugBlk
    rw [show (drugH.slice (blk (coordsOf p)) (fun _ => rfl)).view.set = blkSet p from set_slice_of_whole main_arg1_scv _]
  rw [bigSep_congr fun p _ => h p, ← pointsTo_biUnion Finset.univ (ℓ := drugLoc d) blkSet blkSet_disjoint, blkSet_cover]

theorem cell_blocks : (cellLoc d ↦{fullShare} (CE : Buf (Elt F) (cellLoc d)) : sProp 𝕄) = bigSep Finset.univ fun p : Tiles => cellBlk (F := F) d (coordsOf p) CE := by
  have h : ∀ p : Tiles, (cellBlk (F := F) d (coordsOf p) CE : sProp 𝕄) = (cellLoc d ↦[blkSet p]{fullShare} (CE : Buf (Elt F) (cellLoc d))) := fun p => by
    unfold cellBlk
    rw [show (cellH.slice (blk (coordsOf p)) (fun _ => rfl)).view.set = blkSet p from set_slice_of_whole main_arg2_scv _]
  rw [bigSep_congr fun p _ => h p, ← pointsTo_biUnion Finset.univ (ℓ := cellLoc d) blkSet blkSet_disjoint, blkSet_cover]

theorem out_blocks : (outLoc d ↦{fullShare} (X : Buf (Elt F) (outLoc d)) : sProp 𝕄) = bigSep Finset.univ fun p : Tiles => outBlk d (coordsOf p) X := by
  have h : ∀ p : Tiles, (outBlk d (coordsOf p) X : sProp 𝕄) = (outLoc d ↦[blkSet p]{fullShare} (X : Buf (Elt F) (outLoc d))) := fun p => by
    unfold outBlk
    rw [show (outH.slice (blk (coordsOf p)) (fun _ => rfl)).view.set = blkSet p from set_slice_of_whole main_v3_scv _]
  rw [bigSep_congr fun p _ => h p, ← pointsTo_biUnion Finset.univ (ℓ := outLoc d) blkSet blkSet_disjoint, blkSet_cover]

/-! ## The tables -/

/-- A gather names all of a table. -/
theorem all_set : (Rect.unit (s := S3000000) ![0] S3000000.size inb_S3000000_S3000000_0).set = Finset.univ :=
  Finset.eq_univ_iff_forall.mpr fun j => Rect.mem_set_unit.mpr fun a => by
    match a with
    | 0 => exact ⟨Nat.zero_le _, by have := (j 0).isLt; show (j 0).val < 0 + 3000000; have h : S3000000.size 0 = 3000000 := rfl; omega⟩

/-- The three flat tables, held at one share. -/
abbrev flats (q : PosShare TreeShare) : sProp 𝕄 :=
  iprop((flat0Loc d ↦{q} (tab 0 : Buf (Elt F) (flat0Loc d))) ∗ (flat1Loc d ↦{q} (tab 1 : Buf (Elt F) (flat1Loc d))) ∗ (flat2Loc d ↦{q} (tab 2 : Buf (Elt F) (flat2Loc d))))

theorem tabsPts_flats (L : grid0.Coords) (q : PosShare TreeShare) : (tabsPts d L tab q : sProp 𝕄) = flats d tab q := by
  have h0 : (tabAll 0).view.set = Finset.univ := (set_slice_of_whole main_v0_scv _).trans all_set
  have h1 : (tabAll 1).view.set = Finset.univ := (set_slice_of_whole main_v1_scv _).trans all_set
  have h2 : (tabAll 2).view.set = Finset.univ := (set_slice_of_whole main_v2_scv _).trans all_set
  unfold tabsPts
  rw [bigSep_three]
  unfold tabPts
  rw [h0, h1, h2]
  rfl

theorem flats_tiles : (flats d tab fullShare : sProp 𝕄) = bigSep Finset.univ fun p : Tiles => tabsPts d (coordsOf p) tab (tileShare p) := by
  have hs : ∀ (ℓ : Loc nD τ sig) (f : Buf (Elt F) ℓ), (ℓ ↦{fullShare} f : sProp 𝕄) = bigSep Finset.univ fun p : Tiles => ℓ ↦{tileShare p} f := fun ℓ f => by
    rw [pointsTo_piecesOf (ℓ := ℓ) Finset.univ f (o := 32) (by decide) fullShare, bigSep_univ_equiv (finProdFinEquiv : Tiles ≃ Fin (2 * 16))]
    rfl
  unfold flats
  rw [hs, hs (flat1Loc d), hs (flat2Loc d), bigSep_congr fun p _ => tabsPts_flats d tab (coordsOf p) (tileShare p)]
  unfold flats
  rw [bigSep_sep', bigSep_sep']

/-! ## All of it -/

/-- What one tile gets and hands back, its part of the result holding `R`. -/
abbrev forTile (R : S16384.Idx → F .f32) (p : Tiles) : sProp 𝕄 :=
  iprop(xBlk d (coordsOf p) X ∗ drugBlk (F := F) d (coordsOf p) DR ∗ cellBlk (F := F) d (coordsOf p) CE ∗ tabsPts d (coordsOf p) tab (tileShare p) ∗ outBlk d (coordsOf p) R)

/-- What the call gets and hands back, the result holding `R`. -/
abbrev forCall (R : S16384.Idx → F .f32) : sProp 𝕄 :=
  iprop((xLoc d ↦{fullShare} (X : Buf (Elt F) (xLoc d))) ∗ (drugLoc d ↦{fullShare} (DR : Buf (Elt F) (drugLoc d))) ∗ (cellLoc d ↦{fullShare} (CE : Buf (Elt F) (cellLoc d)))
    ∗ flats d tab fullShare ∗ (outLoc d ↦{fullShare} (R : Buf (Elt F) (outLoc d))))

/-- The call's arrays are what its tiles get, SparseCore by SparseCore. -/
theorem forCall_tiles (R : S16384.Idx → F .f32) :
    (forCall d X DR CE tab R : sProp 𝕄) = bigSep Finset.univ fun c : Fin 2 => bigSep Finset.univ fun i : Fin 16 => forTile d X DR CE tab R (c, i) := by
  rw [← bigSep_univ_prod (fun p : Tiles => forTile d X DR CE tab R p), bigSep_sep', bigSep_sep', bigSep_sep', bigSep_sep',
    ← x_blocks, ← drug_blocks, ← cell_blocks, ← flats_tiles, ← out_blocks]

end Cert.KernelIdeal.Tile

end
-- ==== Proof.Ideal.Launch.lean ====
/-
  The whole program: three tables flattened on the host, the call on 32 tiles, the result.

  From any launch memory whose drug numbers are below 2000 and whose cell numbers are below 1500, every run ends, all
  semaphores at zero, the six arguments unchanged and the result array at `rates` of the arguments.
-/
module

public import proofs.«01_k».proof.Proof.Ideal.Split

@[expose] public section

noncomputable section

namespace Cert.KernelIdeal.Tile

open Cert.KernelIdeal Cert.KernelIdeal.Gen
open Idealize.ShloMosaic
open Idealize.ShloMosaic.SparseCore.Cfg (Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

variable (m : (ℓ : Loc nD τ sig) → Buf (Elt F) ℓ) (ρ : Dev nD → PrngReg) (d : Dev nD)

/-! ## What the launch memory holds -/

/-- The tables' places as the program gets them, two-dimensional. -/
abbrev tab0Loc : Loc nD τ sig := (SparseCore.T d).loc main_arg3
abbrev tab1Loc : Loc nD τ sig := (SparseCore.T d).loc main_arg4
abbrev tab2Loc : Loc nD τ sig := (SparseCore.T d).loc main_arg5

/-- The launch contents of `x`, of the drug numbers and of the cell numbers. -/
def xs : S16384.Idx → F .f32 := m (xLoc d)
def drugs : S16384.Idx → BitVec 32 := m (drugLoc d)
def cells : S16384.Idx → BitVec 32 := m (cellLoc d)
/-- A table in row-major order, flat. -/
def flatten (f : S2000x1500.Idx → F .f32) : S3000000.Idx → F .f32 :=
  shapeCast (α := F .f32) S3000000 f shapeCasts_S2000x1500_S3000000
/-- The three tables, flat. -/
def flatTabs : Fin 3 → S3000000.Idx → F .f32
  | 0 => flatten (m (tab0Loc d))
  | 1 => flatten (m (tab1Loc d))
  | 2 => flatten (m (tab2Loc d))
/-- The launch contents of the result array. -/
def old : S16384.Idx → F .f32 := m (outLoc d)

/-- The result as a function of the arguments. -/
def result : S16384.Idx → F .f32 := rates (xs m d) (drugs m d) (cells m d) (flatTabs m d)

/-- What the proof asks of the launch memory: the numbers name rows and columns of the tables. -/
def InRange : Prop := ∀ d : Dev nD, (∀ j, (drugs m d j).toNat < 2000) ∧ ∀ j, (cells m d j).toNat < 1500

/-! ## What the handshakes carry -/

/-- Tile `p`'s part, with the result still to compute and with it computed. -/
abbrev before (p : Tiles) : sProp 𝕄 := forTile d (xs m d) (drugs m d) (cells m d) (flatTabs m d) (old m d) p
abbrev after (p : Tiles) : sProp 𝕄 := forTile d (xs m d) (drugs m d) (cells m d) (flatTabs m d) (result m d) p

/-- A SparseCore gets and hands back its sixteen tiles' parts, a tile its part. -/
def P : (K (F := F)).Pay (nD := nD) (Val := Elt F) (Name := ℕ) (U := UU) where
  st := fun q d c => match q with
    | 0 => bigSep Finset.univ fun i : Fin 16 => before m d (Fin.cast nCore_zero c, i)
  dn := fun q d c => match q with
    | 0 => bigSep Finset.univ fun i : Fin 16 => after m d (Fin.cast nCore_zero c, i)
  go := fun q d c i => match q with
    | 0 => before m d (Fin.cast nCore_zero c, Fin.cast nSub_zero i)
  td := fun q d c i => match q with
    | 0 => after m d (Fin.cast nCore_zero c, Fin.cast nSub_zero i)
  x := fun _ _ => iprop(emp)

instance P_storable : (P m).IsStorable where
  st := fun q d c => match q with
    | 0 => (inferInstance : BI.Storable (upEmb : UEmb _ 𝕄) (bigSep Finset.univ fun i : Fin 16 => before m d (Fin.cast nCore_zero c, i)))
  dn := fun q d c => match q with
    | 0 => (inferInstance : BI.Storable (upEmb : UEmb _ 𝕄) (bigSep Finset.univ fun i : Fin 16 => after m d (Fin.cast nCore_zero c, i)))
  go := fun q d c i => match q with
    | 0 => (inferInstance : BI.Storable (upEmb : UEmb _ 𝕄) (before m d (Fin.cast nCore_zero c, Fin.cast nSub_zero i)))
  td := fun q d c i => match q with
    | 0 => (inferInstance : BI.Storable (upEmb : UEmb _ 𝕄) (after m d (Fin.cast nCore_zero c, Fin.cast nSub_zero i)))

/-! ## The tile's obligation -/

/-- The kernel's entry in the table of bodies is `tileProg` at the tile's coordinates. -/
theorem body_tile (c : Fin τ.nSC) (s : Fin τ.nSub) :
    defs₀ (F := F) (.scVector c s) 0 ()
      = SparseCore.onTile hcore0 hsub0 (fun c s => cc0_sc_kernel (F := F) (tileAt c s) xH (Memref.isWhole_whole _) drugH (Memref.isWhole_whole _) cellH (Memref.isWhole_whole _)
          (tabH 0) (Memref.isWhole_whole _) (tabH 1) (Memref.isWhole_whole _) (tabH 2) (Memref.isWhole_whole _) outH (Memref.isWhole_whole _)
          xS (Memref.isWhole_whole _) idxS (Memref.isWhole_whole _) cellS (Memref.isWhole_whole _)
          (gotS 0) (Memref.isWhole_whole _) (gotS 1) (Memref.isWhole_whole _) (gotS 2) (Memref.isWhole_whole _)
          cc0_scratch6 cc0_scoped0 cc0_scoped1 cc0_scoped2 cc0_scoped3) ⟨⟩ c s := rfl

/-- A wait of no call is a wait of no call or of this one. -/
theorem waits_weaken {t : Thread nD τ} {A B C : sProp 𝕄} {O : CellTallies nD τ sig (SparseCore.Cfg.HIx 1)} {W : Waits sig (SparseCore.Cfg.HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨H1, H2, H3, %W', %hW', H4⟩
  isplitl [H1]; · iexact H1
  isplitl [H2]; · iexact H2
  isplitl [H3]; · iexact H3
  iexists W'
  isplitr; · ipureintro; exact fun p hp => (hW' p hp).imp_right Or.inl
  iexact H4

set_option maxRecDepth 16384 in
theorem tileObl (h : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_tile]
  simp only [SparseCore.onTile, hci, and_self, ↓reduceDIte]
  rw [kernel_eq_tileProg]
  exact (tile_body d (tileAt ⟨_, hci.1⟩ ⟨_, hci.2⟩) (xs m d) (drugs m d) (cells m d) (flatTabs m d)
    (tileShare (Fin.cast nCore_zero c, Fin.cast nSub_zero i)) (h d).1 (h d).2 (old m d) O W hO).trans
    (wp_mono frame _ _ fun _ => waits_weaken)

/-- A SparseCore's sixteen parts, over the call's own index type. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles', and the tiles' results its own. -/
theorem vecSplit : (K (F := F)).VecSplit' (P m) 0 := by
  intro d c
  show (bigSep Finset.univ fun i : Fin 16 => before m d (Fin.cast nCore_zero c, i)) ⊢ |={Set.univ}=> iprop(
      (bigSep Finset.univ fun i : Fin ((K (F := F)).nSub 0) => before m d (Fin.cast nCore_zero c, Fin.cast nSub_zero i))
      ∗ ((bigSep Finset.univ fun i : Fin ((K (F := F)).nSub 0) => after m d (Fin.cast nCore_zero c, Fin.cast nSub_zero i))
          -∗ bigSep Finset.univ fun i : Fin 16 => after m d (Fin.cast nCore_zero c, i)))
  rw [bigSep_subs (fun i => before m d (Fin.cast nCore_zero c, i)), bigSep_subs (fun i => after m d (Fin.cast nCore_zero c, i))]
  iintro H
  imodintro
  isplitl [H]; · iexact H
  iintro H
  iexact H

/-! ## The launch's ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## The host's part -/

/-- The host's arrays, all unscoped. -/
theorem unscopedBufs_eq (W : (b : Ref sig .tc) → Buf (Elt F) ((d.tc : Thread nD τ).loc b)) :
    (unscopedBufs d W : sProp 𝕄) = iprop((xLoc d ↦{fullShare} W main_arg0) ∗ (drugLoc d ↦{fullShare} W main_arg1) ∗ (cellLoc d ↦{fullShare} W main_arg2)
      ∗ (tab0Loc d ↦{fullShare} W main_arg3) ∗ (tab1Loc d ↦{fullShare} W main_arg4) ∗ (tab2Loc d ↦{fullShare} W main_arg5)
      ∗ (flat0Loc d ↦{fullShare} W main_v0) ∗ (flat1Loc d ↦{fullShare} W main_v1) ∗ (flat2Loc d ↦{fullShare} W main_v2)
      ∗ (outLoc d ↦{fullShare} W main_v3)) := by
  unfold unscopedBufs
  rw [show (Finset.univ.filter fun b : Ref sig .tc => ¬ b.isScoped)
      = {main_arg0, main_arg1, main_arg2, main_arg3, main_arg4, main_arg5, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A reshape of one array of the host into another, both at their launch contents. -/
theorem wp_flatten (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false) (hne : x ≠ y) :
    (iprop(boundary (SparseCore.T d) ∗ ((SparseCore.T d).loc x ↦{fullShare} m ((SparseCore.T d).loc x)) ∗ ((SparseCore.T d).loc y ↦{fullShare} m ((SparseCore.T d).loc y))) : sProp 𝕄)
      ⊢ wp frame (wpE ((K (F := F)).defs (D (F := F))) 𝒱 (SparseCore.T d) none) Set.univ
          (hlo rfl (StableHlo.reshape x y he hn hx hy) fun _ => .ret PUnit.unit)
          fun _ => iprop(boundary (SparseCore.T d) ∗ ((SparseCore.T d).loc x ↦{fullShare} m ((SparseCore.T d).loc x))
            ∗ ((SparseCore.T d).loc y ↦{fullShare} (fun i => he ▸ shapeCast y.ty.shape (m ((SparseCore.T d).loc x)) hn i))) := by
  have hne' : (Proc.devRef .tc x : DevRef τ sig) ≠ (Proc.devRef .tc y : DevRef τ sig) := fun h => hne (Proc.devRef_injective _ h)
  have hS : ∀ V : Valuation τ sig (Elt F), (held (SparseCore.T d) {(Proc.devRef .tc x : DevRef τ sig), (Proc.devRef .tc y : DevRef τ sig)} V : sProp 𝕄)
      = iprop(((SparseCore.T d).loc x ↦{fullShare} V (Proc.devRef .tc x)) ∗ ((SparseCore.T d).loc y ↦{fullShare} V (Proc.devRef .tc y))) := fun V => by
    unfold held
    rw [SparseCore.bigSep_insert' (by simpa using hne'), bigSep_singleton]
  iintro ⟨Hb, Hx, Hy⟩
  iapply (wp_hlo_within 𝒱 (SparseCore.T d) none Set.univ (op := StableHlo.reshape x y he hn hx hy) (S := {(Proc.devRef .tc x : DevRef τ sig), (Proc.devRef .tc y : DevRef τ sig)})
    (Finset.Subset.refl _) (V := fun b => m (d, b))) $$ [Hb Hx Hy]
  · isplitl [Hb]; · iexact Hb
    rw [hS]
    isplitl [Hx]; · iexact Hx
    iexact Hy
  iintro ⟨Hb, Hh⟩
  ihave Hh' := (Entails.of_eq (hS _)) $$ Hh
  icases Hh' with ⟨Hx, Hy⟩
  rw [wp_ret]
  imodintro
  rw [StableHlo.reshape_result, StableHlo.reshape_result_ne _ _ _ _ _ _ _ hne]
  isplitl [Hb]; · iexact Hb
  isplitl [Hx]; · iexact Hx
  iexact Hy

/-- What the call takes for both SparseCores, and what it hands back. -/
theorem call_takes : (bigSep Finset.univ fun c : Fin ((K (F := F)).nCore 0) => (P m).st 0 d c)
    = forCall d (xs m d) (drugs m d) (cells m d) (flatTabs m d) (old m d) := (forCall_tiles d _ _ _ _ _).symm
theorem call_gives : (bigSep Finset.univ fun c : Fin ((K (F := F)).nCore 0) => (P m).dn 0 d c)
    = forCall d (xs m d) (drugs m d) (cells m d) (flatTabs m d) (result m d) := (forCall_tiles d _ _ _ _ _).symm

/-- What the program leaves: the arguments at their launch contents, the result computed. -/
abbrev FIN : sProp 𝕄 :=
  iprop((xLoc d ↦{fullShare} m (xLoc d)) ∗ (drugLoc d ↦{fullShare} m (drugLoc d)) ∗ (cellLoc d ↦{fullShare} m (cellLoc d))
    ∗ (tab0Loc d ↦{fullShare} m (tab0Loc d)) ∗ (tab1Loc d ↦{fullShare} m (tab1Loc d)) ∗ (tab2Loc d ↦{fullShare} m (tab2Loc d))
    ∗ (outLoc d ↦{fullShare} (result m d : Buf (Elt F) (outLoc d))))

/-- The host's program: three reshapes, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hdr, Hce, Ht0, Ht1, Ht2, Hf0, Hf1, Hf2, Ho⟩, Hts, -⟩, -⟩
  iapply ((wp_flatten m d main_arg3 main_v0 rfl shapeCasts_S2000x1500_S3000000 ⟨by decide, rfl⟩ ⟨by decide, rfl⟩ (by decide)).trans (wp_wand frame _ _)) $$ [Hb Ht0 Hf0]
  · isplitl [Hb]; · iexact Hb
    isplitl [Ht0]; · iexact Ht0
    iexact Hf0
  iintro %_ ⟨Hb, Ht0, Hf0⟩
  iapply ((wp_flatten m d main_arg4 main_v1 rfl shapeCasts_S2000x1500_S3000000 ⟨by decide, rfl⟩ ⟨by decide, rfl⟩ (by decide)).trans (wp_wand frame _ _)) $$ [Hb Ht1 Hf1]
  · isplitl [Hb]; · iexact Hb
    isplitl [Ht1]; · iexact Ht1
    iexact Hf1
  iintro %_ ⟨Hb, Ht1, Hf1⟩
  iapply ((wp_flatten m d main_arg5 main_v2 rfl shapeCasts_S2000x1500_S3000000 ⟨by decide, rfl⟩ ⟨by decide, rfl⟩ (by decide)).trans (wp_wand frame _ _)) $$ [Hb Ht2 Hf2]
  · isplitl [Hb]; · iexact Hb
    isplitl [Ht2]; · iexact Ht2
    iexact Hf2
  iintro %_ ⟨Hb, Ht2, Hf2⟩
  iapply ((K (F := F)).wp_run (D (F := F)) 𝒱 (EH := EH) (P := P m) κ d 0) $$ [Hst Hx Hdr Hce Hf0 Hf1 Hf2 Ho Ht0 Ht1 Ht2 Hb Hts]
  isplitr; · iexact Hctx
  isplitl [Hst]; · iexact Hst
  isplitl [Hx Hdr Hce Hf0 Hf1 Hf2 Ho]
  · rw [call_takes]
    isplitl [Hx]; · iexact Hx
    isplitl [Hdr]; · iexact Hdr
    isplitl [Hce]; · iexact Hce
    isplitl [Hf0 Hf1 Hf2]
    · isplitl [Hf0]; · iexact Hf0
      isplitl [Hf1]; · iexact Hf1
      iexact Hf2
    iexact Ho
  iintro ⟨Hst, Hdn⟩
  ihave Hdn' := (Entails.of_eq (call_gives (F := F) m d)) $$ Hdn
  icases Hdn' with ⟨Hx, Hdr, Hce, -, Ho⟩
  imodintro
  isplitl [Hst]; · iexact Hst
  isplitr [Hb Hts]
  · isplitl [Hx]; · iexact Hx
    isplitl [Hdr]; · iexact Hdr
    isplitl [Hce]; · iexact Hce
    isplitl [Ht0]; · iexact Ht0
    isplitl [Ht1]; · iexact Ht1
    isplitl [Ht2]; · iexact Ht2
    iexact Ho
  isplitl [Hb] <;> iassumption

/-! ## The run -/

/-- What the program leaves, read off a final memory. -/
def Left (s : MemSt nD τ sig (Elt F)) : Prop :=
  s.mem (xLoc d) = m (xLoc d) ∧ s.mem (drugLoc d) = m (drugLoc d) ∧ s.mem (cellLoc d) = m (cellLoc d)
    ∧ s.mem (tab0Loc d) = m (tab0Loc d) ∧ s.mem (tab1Loc d) = m (tab1Loc d) ∧ s.mem (tab2Loc d) = m (tab2Loc d)
    ∧ s.mem (outLoc d) = (result m d : Buf (Elt F) (outLoc d))

/-- An array held whole is what the memory holds. -/
theorem read_whole (s : Phys nD τ sig (Elt F)) (ℓ : Loc nD τ sig) (f : Buf (Elt F) ℓ) (R : sProp 𝕄) :
    iprop((ℓ ↦{fullShare} f) ∗ R ∗ SI s) ⊢ (iprop(⌜s.mem.mem ℓ = f⌝ ∗ R ∗ SI s) : sProp 𝕄) := by
  iintro ⟨H, HR, HSI⟩
  ihave H' := (persistent_entails_right (SI_pointsTo_agree (st := s) (ℓ := ℓ) (I := Finset.univ) (q := fullShare) (f := f))) $$ [HSI H]
  · isplitl [HSI] <;> iassumption
  icases H' with ⟨%h, HSI, -⟩
  isplitr; · ipureintro; exact funext fun i => h i (Finset.mem_univ i)
  isplitl [HR]; · iexact HR
  iexact HSI

theorem left_of_FIN (s : Phys nD τ sig (Elt F)) : iprop(FIN m d ∗ SI s) ⊢ (⌜Left m d s.mem⌝ : sProp 𝕄) := by
  iintro ⟨⟨H1, H2, H3, H4, H5, H6, H7⟩, HSI⟩
  ihave H := (read_whole s (xLoc d) (m (xLoc d)) iprop(emp)) $$ [H1 HSI]
  · isplitl [H1]; · iexact H1
    isplitr; · iempintro
    iexact HSI
  icases H with ⟨%h1, -, HSI⟩
  ihave H := (read_whole s (drugLoc d) (m (drugLoc d)) iprop(emp)) $$ [H2 HSI]
  · isplitl [H2]; · iexact H2
    isplitr; · iempintro
    iexact HSI
  icases H with ⟨%h2, -, HSI⟩
  ihave H := (read_whole s (cellLoc d) (m (cellLoc d)) iprop(emp)) $$ [H3 HSI]
  · isplitl [H3]; · iexact H3
    isplitr; · iempintro
    iexact HSI
  icases H with ⟨%h3, -, HSI⟩
  ihave H := (read_whole s (tab0Loc d) (m (tab0Loc d)) iprop(emp)) $$ [H4 HSI]
  · isplitl [H4]; · iexact H4
    isplitr; · iempintro
    iexact HSI
  icases H with ⟨%h4, -, HSI⟩
  ihave H := (read_whole s (tab1Loc d) (m (tab1Loc d)) iprop(emp)) $$ [H5 HSI]
  · isplitl [H5]; · iexact H5
    isplitr; · iempintro
    iexact HSI
  icases H with ⟨%h5, -, HSI⟩
  ihave H := (read_whole s (tab2Loc d) (m (tab2Loc d)) iprop(emp)) $$ [H6 HSI]
  · isplitl [H6]; · iexact H6
    isplitr; · iempintro
    iexact HSI
  icases H with ⟨%h6, -, HSI⟩
  ihave H := (read_whole s (outLoc d) (result m d : Buf (Elt F) (outLoc d)) iprop(emp)) $$ [H7 HSI]
  · isplitl [H7]; · iexact H7
    isplitr; · iempintro
    iexact HSI
  icases H with ⟨%h7, -, HSI⟩
  ipureintro
  exact ⟨h1, h2, h3, h4, h5, h6, h7⟩

/-- Every run ends, every device's arguments unchanged and its result computed, every semaphore at zero. -/
theorem run_main [∀ e, Nonempty (Elt F e)] (h : InRange m) :
    θ_run (Cert.KernelIdeal.defs (F := F)) (Cert.KernelIdeal.threads (F := F)) ⟨m, fun _ => 0, ρ⟩
      (fun r => (∀ d, Left m d r.2) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (launch_ghost m)) (hmain m ρ)
    (fun d s => Left m d s.mem) (left_of_FIN m) _ (fun _ h hz => ⟨h, hz⟩)

end Cert.KernelIdeal.Tile

end
-- ==== Proof.InRange.lean ====
/-
  What the precondition says: every drug number is below 2000 and every cell number below 1500.
-/
module

public import proofs.«01_k».proof.Pre_in_range
public import Idealize.ShloMosaic.Lib.ReduceAll

@[expose] public section

namespace Cert.InRange

open Idealize.ShloMosaic Cert.Pre_in_range

/-- An array with no axes has one index. -/
instance : Subsingleton S_.Idx := ⟨fun a b => funext fun i => i.elim0⟩

/-- A word that is at least 0 and below `n` as a signed number is below `n` as a natural number. -/
theorem toNat_lt {w v : BitVec 32} {n : Nat} (hv : v.toInt = n) (h0 : 0 ≤ w.toInt) (h1 : w.toInt < v.toInt) :
    w.toNat < n := by
  rw [hv] at h1
  rw [BitVec.toInt_eq_toNat_cond] at h0 h1
  have := w.isLt
  split at h0 <;> omega

/-- The precondition at the single index of its result gives both ranges at every position. -/
theorem bounds [Facts] {F : FTy → Type} [FloatOps F] (x : FVec F S16384 .f32) (dr ce : IVec S16384 32)
    (b e d : FVec F S2000x1500 .f32) (h : fn x dr ce b e d = fun _ => 1#1) :
    (∀ j, (dr j).toNat < 2000) ∧ ∀ j, (ce j).toNat < 1500 := by
  have h' := congrFun h (fun i => i.elim0)
  obtain ⟨h3, hc1⟩ := IntOp.andi_eq_one.1 h'
  obtain ⟨h2, hc0⟩ := IntOp.andi_eq_one.1 h3
  obtain ⟨hd0, hd1⟩ := IntOp.andi_eq_one.1 h2
  exact ⟨fun j => toNat_lt (v := 2000#32) (n := 2000) (by decide) (IntOp.cmpi_sge.1 (Host.reduce_andi_all _ _ _ _ _ hd0 j))
      (IntOp.cmpi_slt.1 (Host.reduce_andi_all _ _ _ _ _ hd1 j)),
    fun j => toNat_lt (v := 1500#32) (n := 1500) (by decide) (IntOp.cmpi_sge.1 (Host.reduce_andi_all _ _ _ _ _ hc0 j))
      (IntOp.cmpi_slt.1 (Host.reduce_andi_all _ _ _ _ _ hc1 j))⟩

end Cert.InRange

end
-- ==== Proof.Pairs.lean ====
/-
  The reference's two-column gather: at a pair in range it reads the table at the pair.

  The reference wraps a negative number around, puts the drug numbers and the cell numbers side by side as the two
  columns of an index array, and gathers. A number in range is not negative and needs no clamping, so position `j` of
  the gather is the table at row `dr j`, column `ce j`.
-/
module

public import proofs.«01_k».proof.Proof.Gen.ReferenceIdeal
public import Idealize.ShloMosaic.Lib.Affine
public import Idealize.ShloMosaic.Lib.WordCmp
public import Idealize.ShloMosaic.Lib.ValueIdx
public import Idealize.ShloMosaic.Lib.Pipeline.Value

@[expose] public section

noncomputable section

namespace Cert.ReferenceIdeal.Pairs

open Cert.ReferenceIdeal Cert.ReferenceIdeal.Gen Idealize.ShloMosaic Idealize.ShloMosaic.ValueIdx

/-- Position `(j, k)` of the two-column index array. -/
abbrev at2 (j : S16384.Idx) (k : Fin 2) : S16384x2.Idx := ix2 (j 0) k

/-- Position `(j, 0)` of a column. -/
abbrev at1 (j : S16384.Idx) : S16384x1.Idx := ix2 (j 0) (0 : Fin 1)

/-- A list of numbers, negative ones wrapped around by `n`, as a column. -/
def column (n : BitVec 32) (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 n))) v)

/-- The index array: the drug numbers beside the cell numbers. -/
def starts (dr ce : IVec S16384 32) : IVec S16384x2 32 :=
  concatenate S16384x2 1 [⟨S16384x1, column 2000#32 dr⟩, ⟨S16384x1, column 1500#32 ce⟩]
    concatenates_S16384x1_S16384x1_S16384x2_d1

/-- The reference's lookup in one table. -/
def lookup {α : Type} (tab : S2000x1500.Idx → α) (dr ce : IVec S16384 32) : S16384.Idx → α :=
  Host.gather gather_S2000x1500_S16384x2_S16384_n_01_n_n_01_1_11 tab (starts dr ce)

/-- A number in range stays as it is in its column. -/
theorem column_apply (n : BitVec 32) (v : IVec S16384 32) (j : S16384.Idx) (h : (v j).toNat < 2 ^ 31) :
    column n v (at1 j) = v j := by
  unfold column
  rw [broadcastInDim_apply _ _ _ (at1 j) j (fun a => match a with | ⟨0, _⟩ => rfl)]
  have hc : ¬ IntOp.cmpi .slt (v j) 0#32 = 1#1 := by
    rw [IntOp.cmpi_slt, BitVec.toInt_eq_toNat_of_lt (by omega)]
    simp
  show (if IntOp.cmpi .slt (v j) 0#32 = 1#1 then _ else v j) = v j
  rw [if_neg hc]

/-- The first column of the index array holds the drug numbers. -/
theorem starts_zero (dr ce : IVec S16384 32) (j : S16384.Idx) (h : (dr j).toNat < 2 ^ 31) :
    starts dr ce (at2 j 0) = dr j := by
  unfold starts
  exact (concatenate_pair_apply_left (s₁ := S16384x1) (s₂ := S16384x1) (t := S16384x2) 1 _ _ _ (at2 j 0) rfl (at1 j)
    (fun b => match b with | ⟨0, _⟩ => rfl | ⟨1, _⟩ => rfl)).trans (column_apply _ _ j h)

/-- The second column of the index array holds the cell numbers. -/
theorem starts_one (dr ce : IVec S16384 32) (j : S16384.Idx) (h : (ce j).toNat < 2 ^ 31) :
    starts dr ce (at2 j 1) = ce j := by
  unfold starts
  exact (concatenate_pair_apply_right (s₁ := S16384x1) (s₂ := S16384x1) (t := S16384x2) 1 _ _ _ (at2 j 1) rfl rfl (at1 j)
    (fun b => match b with | ⟨0, _⟩ => fun _ => rfl | ⟨1, _⟩ => fun hb => absurd rfl hb) rfl).trans (column_apply _ _ j h)

/-- The gather at `j`, its two start numbers being `r` and `c` in range, is the table at `(r, c)`. -/
theorem gather_apply {α : Type} (tab : S2000x1500.Idx → α) (idx : IVec S16384x2 32) (j : S16384.Idx)
    (r : Fin 2000) (c : Fin 1500) (hr : (idx (at2 j 0)).toInt = r.val) (hc : (idx (at2 j 1)).toInt = c.val) :
    Host.gather gather_S2000x1500_S16384x2_S16384_n_01_n_n_01_1_11 tab idx j = tab (ix2 r c) := by
  have hcol : ∀ a : Fin 2, a ∈ gather_S2000x1500_S16384x2_S16384_n_01_n_n_01_1_11.collapsedSliceDims := fun a =>
    match a with | ⟨0, _⟩ => List.mem_cons_self .. | ⟨1, _⟩ => List.mem_cons_of_mem _ (List.mem_cons_self ..)
  have hmap : ∀ a : Fin 2, a ∈ gather_S2000x1500_S16384x2_S16384_n_01_n_n_01_1_11.startIndexMap := hcol
  refine congrArg tab (funext fun a => Fin.ext ?_)
  show GatherDims.start _ j idx a + GatherDims.batchCoord _ j a + GatherDims.offCoord _ j a = _
  rw [GatherDims.batchCoord_eq_zero _ _ _ List.not_mem_nil,
    GatherDims.offCoord_eq_zero _ _ _ (fun h => ((GatherDims.mem_sKept _ _).mp h).1 (hcol a)), Nat.add_zero]
  unfold GatherDims.start
  rw [dif_pos (hmap a)]
  match a with
  | ⟨0, _⟩ =>
    have hs : GatherDims.siIdx gather_S2000x1500_S16384x2_S16384_n_01_n_n_01_1_11 j
        ⟨List.idxOf (0 : Fin 2) [0, 1], by decide⟩ = at2 j 0 :=
      funext fun b => Fin.ext (match b with | ⟨0, _⟩ => rfl | ⟨1, _⟩ => rfl)
    show min (idx (GatherDims.siIdx gather_S2000x1500_S16384x2_S16384_n_01_n_n_01_1_11 j
        ⟨List.idxOf (0 : Fin 2) [0, 1], _⟩)).toInt.toNat (2000 - 1) = r.val
    rw [hs, hr]
    have := r.isLt
    omega
  | ⟨1, _⟩ =>
    have hs : GatherDims.siIdx gather_S2000x1500_S16384x2_S16384_n_01_n_n_01_1_11 j
        ⟨List.idxOf (1 : Fin 2) [0, 1], by decide⟩ = at2 j 1 :=
      funext fun b => Fin.ext (match b with | ⟨0, _⟩ => rfl | ⟨1, _⟩ => rfl)
    show min (idx (GatherDims.siIdx gather_S2000x1500_S16384x2_S16384_n_01_n_n_01_1_11 j
        ⟨List.idxOf (1 : Fin 2) [0, 1], _⟩)).toInt.toNat (1500 - 1) = c.val
    rw [hs, hc]
    have := c.isLt
    omega

/-- The lookup at a pair in range is the table at the pair. -/
theorem lookup_apply {α : Type} (tab : S2000x1500.Idx → α) (dr ce : IVec S16384 32) (j : S16384.Idx)
    (hr : (dr j).toNat < 2000) (hc : (ce j).toNat < 1500) :
    lookup tab dr ce j = tab (ix2 ⟨(dr j).toNat, hr⟩ ⟨(ce j).toNat, hc⟩) := by
  refine gather_apply tab (starts dr ce) j _ _ ?_ ?_
  · rw [starts_zero dr ce j (by omega), BitVec.toInt_eq_toNat_of_lt (by omega)]
  · rw [starts_one dr ce j (by omega), BitVec.toInt_eq_toNat_of_lt (by omega)]

end Cert.ReferenceIdeal.Pairs

end
-- ==== Proof.Value.lean ====
/-
  The kernel's result and the reference's are one function of the arguments, over the extended reals.

  Both read the same three table entries at every pair in range: the kernel at position `1500 * drug + cell` of the
  flattened table, the reference at `(drug, cell)`. From there the kernel computes `d / (1 + exp (0 - t))` and the
  reference `0 + (d - 0) * (1 / (1 + exp (-t)))`. The denominator is at least 1, so it is not zero, and the two agree
  whatever the entries are, infinities included.
-/
module

public import proofs.«01_k».proof.Proof.Ideal.Launch
public import proofs.«01_k».proof.Proof.Pairs
public import Idealize.ShloMosaic.Lib.IdealHost

@[expose] public section

noncomputable section

namespace Cert.Value

open Idealize.ShloMosaic Idealize.ShloMosaic.ValueIdx
open Cert.ReferenceIdeal Cert.ReferenceIdeal.Gen Cert.ReferenceIdeal.Pairs

/-! ## One element -/

/-- The exponential is not negative. -/
theorem exp_nonneg (t : EReal) : 0 ≤ Ideal.exp t := by
  induction t with
  | bot => exact le_refl (0 : EReal)
  | top => exact le_top
  | coe r => exact EReal.coe_nonneg.mpr (Real.exp_pos r).le

/-- One more than an exponential is not zero. -/
theorem one_add_exp_ne_zero (t : EReal) : 1 + Ideal.exp t ≠ 0 := by
  have h : (1 : EReal) ≤ 1 + Ideal.exp t := le_add_of_nonneg_right (exp_nonneg t)
  exact (lt_of_lt_of_le zero_lt_one h).ne'

/-- The kernel's element is the reference's. -/
theorem rate_eq (d t : EReal) :
    Ideal.div d (1 + Ideal.exp (0 - t)) = 0 + (d - 0) * Ideal.div 1 (1 + Ideal.exp (-t)) := by
  rw [zero_sub, sub_zero, zero_add]
  unfold Ideal.div
  rw [if_neg (one_add_exp_ne_zero _), if_neg (one_add_exp_ne_zero _), one_mul]

/-! ## The entry -/

/-- A flattened table at `1500 * r + c` is the table at `(r, c)`. -/
theorem flat_entry {α : Type} (f : S2000x1500.Idx → α) (h : S2000x1500.ShapeCasts KernelIdeal.S3000000) (r : Fin 2000)
    (c : Fin 1500) (n : ℕ) (hn : n = r.val * 1500 + c.val) :
    KernelIdeal.Tile.entryOf (shapeCast KernelIdeal.S3000000 f h) n = f (ix2 r c) := by
  refine shapeCast_apply f h _ (ix2 r c) ?_
  rw [Shape.rowMajor_val_two, Shape.rowMajor_val_one]
  have h1 := r.isLt
  have h2 := c.isLt
  show r.val * 1500 + c.val = n % 3000000
  omega

/-! ## The arrays -/

/-- The reference's result, from its arguments. -/
def expected (x : FVec Ideal S16384 .f32) (dr ce : IVec S16384 32) (b e d : FVec Ideal S2000x1500 .f32) :
    FVec Ideal S16384 .f32 :=
  addf (broadcastInDim S16384 ![] bcast_S_S16384 (constant S_ .f32 0x00000000#32))
    (mulf (subf (lookup d dr ce) (broadcastInDim S16384 ![] bcast_S_S16384 (constant S_ .f32 0x00000000#32)))
      (Host.divf (broadcastInDim S16384 ![] bcast_S_S16384 (constant S_ .f32 0x3F800000#32))
        (addf (broadcastInDim S16384 ![] bcast_S_S16384 (constant S_ .f32 0x3F800000#32))
          (Host.exp (Host.negf (mulf (lookup b dr ce) (addf x (lookup e dr ce))))))))

/-- The reference's result at one position. -/
theorem expected_apply (x : FVec Ideal S16384 .f32) (dr ce : IVec S16384 32) (b e d : FVec Ideal S2000x1500 .f32)
    (j : S16384.Idx) :
    expected x dr ce b e d j
      = (0 : EReal) + ((lookup d dr ce j : EReal) - 0)
          * Ideal.div 1 (1 + Ideal.exp (-((lookup b dr ce j : EReal) * ((x j : EReal) + (lookup e dr ce j : EReal))))) := by
  show (Ideal.ofBits .f32 0x00000000#32 : EReal) + ((lookup d dr ce j : EReal) - Ideal.ofBits .f32 0x00000000#32)
      * Ideal.div (Ideal.ofBits .f32 0x3F800000#32) (Ideal.ofBits .f32 0x3F800000#32 + Ideal.exp (-(_ * (_ + _)))) = _
  rw [Ideal.ofBits_zero_f32, Ideal.ofBits_one_f32]

/-- The kernel's result at one position, from the three entries. -/
theorem rateOf_apply (b x e d : FVec Ideal S16384 .f32) (j : S16384.Idx) :
    KernelIdeal.Tile.rateOf b x e d j
      = Ideal.div (d j) (1 + Ideal.exp (0 - ((b j : EReal) * ((x j : EReal) + (e j : EReal))))) := by
  show Ideal.div (d j) (Ideal.ofBits .f32 0x3F800000#32
    + Ideal.exp (Ideal.ofBits .f32 0x00000000#32 - (_ * (_ + _)))) = _
  rw [Ideal.ofBits_zero_f32, Ideal.ofBits_one_f32]

/-- The kernel's result is the reference's, on every device, when all pairs are in range. -/
theorem result_eq (m : (ℓ : Loc KernelIdeal.nD KernelIdeal.τ KernelIdeal.sig) → Buf (Elt Ideal) ℓ)
    (c : Dev KernelIdeal.nD) (h : KernelIdeal.Tile.InRange m) :
    KernelIdeal.Tile.result m c
      = expected (KernelIdeal.Tile.xs m c) (KernelIdeal.Tile.drugs m c) (KernelIdeal.Tile.cells m c)
          (m (KernelIdeal.Tile.tab0Loc c)) (m (KernelIdeal.Tile.tab1Loc c)) (m (KernelIdeal.Tile.tab2Loc c)) := by
  obtain ⟨hD, hC⟩ := h c
  have hent : ∀ (f : S2000x1500.Idx → Ideal .f32) (j : S16384.Idx),
      KernelIdeal.Tile.entryOf (KernelIdeal.Tile.flatten f)
          (KernelIdeal.Tile.flatOf (s := KernelIdeal.S16384) (KernelIdeal.Tile.drugs m c) (KernelIdeal.Tile.cells m c) j).toNat
        = lookup f (KernelIdeal.Tile.drugs m c) (KernelIdeal.Tile.cells m c) j := fun f j =>
    (flat_entry f _ ⟨_, hD j⟩ ⟨_, hC j⟩ _ (KernelIdeal.Tile.flat_lt _ _ hD hC j).1).trans
      (lookup_apply f _ _ j (hD j) (hC j)).symm
  funext j
  rw [expected_apply, ← hent, ← hent, ← hent, ← rate_eq]
  exact rateOf_apply _ _ _ _ j

end Cert.Value

end
-- ==== Proof.lean ====
/-
  The five claims about the kernel.

  * Both kernel programs run from every memory whose pairs are in range, leave the six arguments alone and every
    semaphore at zero (`Proof/Bits/Launch.lean`, `Proof/Ideal/Launch.lean`; the ranges from `Proof/InRange.lean`).
  * The reference runs the same way: it is host operations only, and has no semaphore.
  * The idealized kernel is the kernel's own text, so nothing has to be preserved.
  * Over the extended reals the kernel's result is the reference's (`Proof/Value.lean`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Bits.Launch
public import proofs.«01_k».proof.Proof.Ideal.Launch
public import proofs.«01_k».proof.Proof.InRange
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The precondition puts the kernel's pairs in range. -/
theorem bits_inRange (m : (ℓ : Loc Kernel.nD Kernel.τ Kernel.sig) → Buf (Elt Bits) ℓ) (h : Pre_Kernel m) :
    Kernel.Tile.InRange m := fun c => InRange.bounds _ _ _ _ _ _ (h c)

/-- The precondition puts the idealized kernel's pairs in range. -/
theorem ideal_inRange (m : (ℓ : Loc KernelIdeal.nD KernelIdeal.τ KernelIdeal.sig) → Buf (Elt Ideal) ℓ)
    (h : Pre_KernelIdeal m) : KernelIdeal.Tile.InRange m := fun c => InRange.bounds _ _ _ _ _ _ (h c)

/-- The kernel runs, its arguments unchanged and its semaphores at zero. -/
theorem frame_kernel : quiescent_Kernel := fun m g h =>
  (θ_run _ _ _).mono
    (fun _ hr => ⟨fun c => ⟨(hr.1 c).1, (hr.1 c).2.1, (hr.1 c).2.2.1, (hr.1 c).2.2.2.1, (hr.1 c).2.2.2.2.1,
      (hr.1 c).2.2.2.2.2.1⟩, hr.2⟩)
    (Kernel.Tile.run_main m g (bits_inRange m h))

/-- The idealized kernel runs, its arguments unchanged and its semaphores at zero. -/
theorem frame_ideal : quiescent_KernelIdeal := fun m g h =>
  (θ_run _ _ _).mono
    (fun _ hr => ⟨fun c => ⟨(hr.1 c).1, (hr.1 c).2.1, (hr.1 c).2.2.1, (hr.1 c).2.2.2.1, (hr.1 c).2.2.2.2.1,
      (hr.1 c).2.2.2.2.2.1⟩, hr.2⟩)
    (KernelIdeal.Tile.run_main m g (ideal_inRange m h))

/-- The reference runs, its arguments unchanged; it has no semaphore. -/
theorem frame_reference : quiescent_ReferenceIdeal := fun m g _ =>
  (θ_run _ _ _).mono (fun r hr => ⟨fun c => (hr c).2, sem_eq_zero_of_no_sems (by decide) r.2⟩)
    (ReferenceIdeal.Value.run (F := Ideal) m g)

/-- A result array that is `expected` of the reference's arguments is the kernel's `result`, when these arguments are the
    kernel's and all pairs are in range. -/
theorem reference_result (m : (ℓ : Loc ReferenceIdeal.nD ReferenceIdeal.τ ReferenceIdeal.sig) → Buf (Elt Ideal) ℓ)
    (c : Dev ReferenceIdeal.nD) (r : MemSt ReferenceIdeal.nD ReferenceIdeal.τ ReferenceIdeal.sig (Elt Ideal))
    (h : r.mem ((c.tc : Thread ReferenceIdeal.nD ReferenceIdeal.τ).loc ReferenceIdeal.main_v53)
      = Value.expected (m ((c.tc : Thread ReferenceIdeal.nD ReferenceIdeal.τ).loc ReferenceIdeal.main_arg0))
          (m ((c.tc : Thread ReferenceIdeal.nD ReferenceIdeal.τ).loc ReferenceIdeal.main_arg1))
          (m ((c.tc : Thread ReferenceIdeal.nD ReferenceIdeal.τ).loc ReferenceIdeal.main_arg2))
          (m ((c.tc : Thread ReferenceIdeal.nD ReferenceIdeal.τ).loc ReferenceIdeal.main_arg3))
          (m ((c.tc : Thread ReferenceIdeal.nD ReferenceIdeal.τ).loc ReferenceIdeal.main_arg4))
          (m ((c.tc : Thread ReferenceIdeal.nD ReferenceIdeal.τ).loc ReferenceIdeal.main_arg5)))
    (m₀ : (ℓ : Loc KernelIdeal.nD KernelIdeal.τ KernelIdeal.sig) → Buf (Elt Ideal) ℓ) (d : Dev KernelIdeal.nD)
    (hin : KernelIdeal.Tile.InRange m₀)
    (h0 : m ((c.tc : Thread ReferenceIdeal.nD ReferenceIdeal.τ).loc ReferenceIdeal.main_arg0) = KernelIdeal.Tile.xs m₀ d)
    (h1 : m ((c.tc : Thread ReferenceIdeal.nD ReferenceIdeal.τ).loc ReferenceIdeal.main_arg1) = KernelIdeal.Tile.drugs m₀ d)
    (h2 : m ((c.tc : Thread ReferenceIdeal.nD ReferenceIdeal.τ).loc ReferenceIdeal.main_arg2) = KernelIdeal.Tile.cells m₀ d)
    (h3 : m ((c.tc : Thread ReferenceIdeal.nD ReferenceIdeal.τ).loc ReferenceIdeal.main_arg3) = m₀ (KernelIdeal.Tile.tab0Loc d))
    (h4 : m ((c.tc : Thread ReferenceIdeal.nD ReferenceIdeal.τ).loc ReferenceIdeal.main_arg4) = m₀ (KernelIdeal.Tile.tab1Loc d))
    (h5 : m ((c.tc : Thread ReferenceIdeal.nD ReferenceIdeal.τ).loc ReferenceIdeal.main_arg5) = m₀ (KernelIdeal.Tile.tab2Loc d)) :
    r.mem ((c.tc : Thread ReferenceIdeal.nD ReferenceIdeal.τ).loc ReferenceIdeal.main_v53) = KernelIdeal.Tile.result m₀ d := by
  rw [h, h0, h1, h2, h3, h4, h5]
  exact (Value.result_eq m₀ d hin).symm

/-- Over the extended reals both programs end with the kernel's `result`. -/
theorem same_result : algebraic_KernelIdeal_ReferenceIdeal := fun m g m' g' h hm =>
  ⟨fun c => KernelIdeal.Tile.result m c,
    (θ_run _ _ _).mono
      (fun _ hr c => ⟨(hr.1 c).2.2.2.2.2.2, (hr.1 c).1, (hr.1 c).2.1, (hr.1 c).2.2.1, (hr.1 c).2.2.2.1,
        (hr.1 c).2.2.2.2.1, (hr.1 c).2.2.2.2.2.1⟩)
      (KernelIdeal.Tile.run_main m g (ideal_inRange m h)),
    (θ_run _ _ _).mono
      (fun r hr c => ⟨reference_result m' c r.2 (hr c).1 m c (ideal_inRange m h) (hm c).1 (hm c).2.1 (hm c).2.2.1
        (hm c).2.2.2.1 (hm c).2.2.2.2.1 (hm c).2.2.2.2.2, (hr c).2⟩)
      (ReferenceIdeal.Value.run (F := Ideal) m' g')⟩

/-- All five claims. -/
theorem claim : Cert.Claim :=
  ⟨Cert.Kernel.Gen.facts, Cert.KernelIdeal.Gen.facts, Cert.ReferenceIdeal.Gen.facts, Cert.Pre_in_range.Gen.facts,
    frame_kernel, frame_ideal, frame_reference, trivial, same_result⟩

end Cert.Proof

end
